-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)) (v2 : (c : Dev Cert.Kernel2Ideal.nD) → Buf (Elt Ideal) ((c.tc : Thread Cert.Kernel2Ideal.nD Cert.Kernel2Ideal.τ).loc Cert.Kernel2Ideal.main_v36_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_v36_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v74) = v3 c
          ∧ r.2.mem ((c.tc : Thread Cert.Reference3Ideal.nD Cert.Reference3Ideal.τ).loc Cert.Reference3Ideal.main_v77) = v4 c
          ∧ r.2.mem ((c.tc : Thread Cert.Reference3Ideal.nD Cert.Reference3Ideal.τ).loc Cert.Reference3Ideal.main_v78) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2048x512 : Shape := ⟨2, ![2048, 512]⟩
abbrev S3x8x128x256 : Shape := ⟨4, ![3, 8, 128, 256]⟩
abbrev S2048x8 : Shape := ⟨2, ![2048, 8]⟩
abbrev S_ : Shape := ⟨0, ![]⟩

class Facts : Prop where
  bcast_S_S2048x512 : S_.BroadcastsInDim S2048x512 (![] : Fin 0 → Fin S2048x512.rank)
  bcast_S_S3x8x128x256 : S_.BroadcastsInDim S3x8x128x256 (![] : Fin 0 → Fin S3x8x128x256.rank)
  bcast_S_S2048x8 : S_.BroadcastsInDim S2048x8 (![] : Fin 0 → Fin S2048x8.rank)

variable [Facts]

def fn {F : FTy → Type} [FloatOps F] (main_arg0 : FVec F S2048x512 .f32) (main_arg1 : FVec F S2048x512 .f32) (main_arg2 : FVec F S2048x512 .f32) (main_arg3 : FVec F S3x8x128x256 .f32) (main_arg4 : FVec F S2048x512 .f32) (main_arg5 : FVec F S2048x8 .f32) : IVec S2048x512 1 × IVec S2048x512 1 × IVec S2048x512 1 × IVec S3x8x128x256 1 × IVec S2048x512 1 × IVec S2048x8 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S3x8x128x256 .f32 := Host.absf main_arg3
  let main_cst_2 : FVec F S_ .f32 := constant S_ .f32 0x7F800000#32
  let main_v10 : FVec F S3x8x128x256 .f32 := broadcastInDim S3x8x128x256 ![] bcast_S_S3x8x128x256 main_cst_2
  let main_v11 : IVec S3x8x128x256 1 := cmpf .olt main_v9 main_v10
  let main_v12 : FVec F S2048x512 .f32 := Host.absf main_arg4
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x8 .f32 := Host.absf main_arg5
  let main_cst_4 : FVec F S_ .f32 := constant S_ .f32 0x7F800000#32
  let main_v16 : FVec F S2048x8 .f32 := broadcastInDim S2048x8 ![] bcast_S_S2048x8 main_cst_4
  let main_v17 : IVec S2048x8 1 := cmpf .olt main_v15 main_v16
  (main_v2, main_v5, main_v8, main_v11, main_v14, main_v17)
-- ==== Pre_finite2.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S1024x2816 .f32) (main_arg2 : FVec F S1024x2816 .f32) (main_arg3 : FVec F S2816x1024 .f32) (main_arg4 : FVec F S2048x1024 .f32) : IVec S2048x1024 1 × IVec S1024x2816 1 × IVec S2816x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S2048x1024 .f32 := Host.absf main_arg4
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Kernel.lean ====
abbrev S2048x512 : Shape := ⟨2, ![2048, 512]⟩
abbrev S3x8x128x256 : Shape := ⟨4, ![3, 8, 128, 256]⟩
abbrev S2048x8 : Shape := ⟨2, ![2048, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x16x512 : Shape := ⟨3, ![128, 16, 512]⟩
abbrev S16x128x512 : Shape := ⟨3, ![16, 128, 512]⟩
abbrev S1x2048x512 : Shape := ⟨3, ![1, 2048, 512]⟩
abbrev S3x2048x512 : Shape := ⟨3, ![3, 2048, 512]⟩
abbrev S1x8x128x256 : Shape := ⟨4, ![1, 8, 128, 256]⟩
abbrev S8x128x256 : Shape := ⟨3, ![8, 128, 256]⟩
abbrev S128x16x8x64 : Shape := ⟨4, ![128, 16, 8, 64]⟩
abbrev S16x8x128x128 : Shape := ⟨4, ![16, 8, 128, 128]⟩
abbrev S1x128 : Shape := ⟨2, ![1, 128]⟩
abbrev S128x128 : Shape := ⟨2, ![128, 128]⟩
abbrev S8x128x128 : Shape := ⟨3, ![8, 128, 128]⟩
abbrev S1x8x128x128 : Shape := ⟨4, ![1, 8, 128, 128]⟩
abbrev S16x8x128 : Shape := ⟨3, ![16, 8, 128]⟩
abbrev S16x8x128x1 : Shape := ⟨4, ![16, 8, 128, 1]⟩
abbrev S16x8x128x64 : Shape := ⟨4, ![16, 8, 128, 64]⟩
abbrev S128x16x8 : Shape := ⟨3, ![128, 16, 8]⟩
abbrev S16x128x8 : Shape := ⟨3, ![16, 128, 8]⟩
abbrev S2048x128 : Shape := ⟨2, ![2048, 128]⟩
abbrev S1x128x128 : Shape := ⟨3, ![1, 128, 128]⟩
abbrev S256x128 : Shape := ⟨2, ![256, 128]⟩
abbrev S1x2x128x256 : Shape := ⟨4, ![1, 2, 128, 256]⟩
abbrev S2x128x256 : Shape := ⟨3, ![2, 128, 256]⟩
abbrev S256x256 : Shape := ⟨2, ![256, 256]⟩
abbrev S256x1 : Shape := ⟨2, ![256, 1]⟩
abbrev S2x128x128 : Shape := ⟨3, ![2, 128, 128]⟩

abbrev nBuf : Space → Nat
  | .hbm => 108
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S3x8x128x256, .f32⟩
  | .hbm, ⟨4, _⟩ => ⟨S2048x512, .f32⟩
  | .hbm, ⟨5, _⟩ => ⟨S2048x8, .f32⟩
  | .hbm, ⟨6, _⟩ => ⟨S128, .i32⟩
  | .hbm, ⟨7, _⟩ => ⟨S128x1, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S128x256, .i1⟩
  | .hbm, ⟨23, _⟩ => ⟨S_, .f32⟩
  | .hbm, ⟨24, _⟩ => ⟨S_, .f32⟩
  | .hbm, ⟨25, _⟩ => ⟨S3x8x128x256, .i1⟩
  | .hbm, ⟨26, _⟩ => ⟨S3x8x128x256, .f32⟩
  | .hbm, ⟨27, _⟩ => ⟨S3x8x128x256, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S128x16x512, .f32⟩
  | .hbm, ⟨32, _⟩ => ⟨S16x128x512, .f32⟩
  | .hbm, ⟨33, _⟩ => ⟨S2048x512, .f32⟩
  | .hbm, ⟨34, _⟩ => ⟨S128x16x512, .f32⟩
  | .hbm, ⟨35, _⟩ => ⟨S16x128x512, .f32⟩
  | .hbm, ⟨36, _⟩ => ⟨S2048x512, .f32⟩
  | .hbm, ⟨37, _⟩ => ⟨S128x16x512, .f32⟩
  | .hbm, ⟨38, _⟩ => ⟨S16x128x512, .f32⟩
  | .hbm, ⟨39, _⟩ => ⟨S2048x512, .f32⟩
  | .hbm, ⟨40, _⟩ => ⟨S1x2048x512, .f32⟩
  | .hbm, ⟨41, _⟩ => ⟨S1x2048x512, .f32⟩
  | .hbm, ⟨42, _⟩ => ⟨S1x2048x512, .f32⟩
  | .hbm, ⟨43, _⟩ => ⟨S3x2048x512, .f32⟩
  | .hbm, ⟨44, _⟩ => ⟨S3x2048x512, .bf16⟩
  | .hbm, ⟨45, _⟩ => ⟨S1x8x128x256, .f32⟩
  | .hbm, ⟨46, _⟩ => ⟨S8x128x256, .f32⟩
  | .hbm, ⟨47, _⟩ => ⟨S128, .i32⟩
  | .hbm, ⟨48, _⟩ => ⟨S128x16x8x64, .f32⟩
  | .hbm, ⟨49, _⟩ => ⟨S_, .f32⟩
  | .hbm, ⟨50, _⟩ => ⟨S128x16x8x64, .f32⟩
  | .hbm, ⟨51, _⟩ => ⟨S128x16x8x64, .f32⟩
  | .hbm, ⟨52, _⟩ => ⟨S128x16x8x64, .f32⟩
  | .hbm, ⟨53, _⟩ => ⟨S16x8x128x128, .f32⟩
  | .hbm, ⟨54, _⟩ => ⟨S128x1, .i32⟩
  | .hbm, ⟨55, _⟩ => ⟨S1x128, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S8x128x128, .f32⟩
  | .hbm, ⟨60, _⟩ => ⟨S1x8x128x128, .f32⟩
  | .hbm, ⟨61, _⟩ => ⟨S16x8x128x128, .f32⟩
  | .hbm, ⟨62, _⟩ => ⟨S16x8x128x128, .f32⟩
  | .hbm, ⟨63, _⟩ => ⟨S_, .f32⟩
  | .hbm, ⟨64, _⟩ => ⟨S_, .f32⟩
  | .hbm, ⟨65, _⟩ => ⟨S16x8x128x128, .i1⟩
  | .hbm, ⟨66, _⟩ => ⟨S16x8x128x128, .f32⟩
  | .hbm, ⟨67, _⟩ => ⟨S16x8x128x128, .f32⟩
  | .hbm, ⟨68, _⟩ => ⟨S_, .f32⟩
  | .hbm, ⟨69, _⟩ => ⟨S16x8x128, .f32⟩
  | .hbm, ⟨70, _⟩ => ⟨S16x8x128x1, .f32⟩
  | .hbm, ⟨71, _⟩ => ⟨S16x8x128x128, .f32⟩
  | .hbm, ⟨72, _⟩ => ⟨S16x8x128x128, .f32⟩
  | .hbm, ⟨73, _⟩ => ⟨S16x8x128x128, .f32⟩
  | .hbm, ⟨74, _⟩ => ⟨S_, .f32⟩
  | .hbm, ⟨75, _⟩ => ⟨S16x8x128, .f32⟩
  | .hbm, ⟨76, _⟩ => ⟨S16x8x128x1, .f32⟩
  | .hbm, ⟨77, _⟩ => ⟨S128x16x8x64, .f32⟩
  | .hbm, ⟨78, _⟩ => ⟨S16x8x128x64, .f32⟩
  | .hbm, ⟨79, _⟩ => ⟨S16x8x128x64, .f32⟩
  | .hbm, ⟨80, _⟩ => ⟨S16x8x128x64, .f32⟩
  | .hbm, ⟨81, _⟩ => ⟨S16x8x128x1, .f32⟩
  | .hbm, ⟨82, _⟩ => ⟨S16x8x128x1, .f32⟩
  | .hbm, ⟨83, _⟩ => ⟨S16x8x128, .f32⟩
  | .hbm, ⟨84, _⟩ => ⟨S128x16x8x64, .f32⟩
  | .hbm, ⟨85, _⟩ => ⟨S128x16x8, .f32⟩
  | .hbm, ⟨86, _⟩ => ⟨S128x16x8x64, .f32⟩
  | .hbm, ⟨87, _⟩ => ⟨S128x16x8x64, .f32⟩
  | .hbm, ⟨88, _⟩ => ⟨S_, .f32⟩
  | .hbm, ⟨89, _⟩ => ⟨S128x16x8, .f32⟩
  | .hbm, ⟨90, _⟩ => ⟨S128x16x8, .f32⟩
  | .hbm, ⟨91, _⟩ => ⟨S128x16x8, .f32⟩
  | .hbm, ⟨92, _⟩ => ⟨S128x16x512, .f32⟩
  | .hbm, ⟨93, _⟩ => ⟨S16x128x512, .f32⟩
  | .hbm, ⟨94, _⟩ => ⟨S2048x512, .f32⟩
  | .hbm, ⟨95, _⟩ => ⟨S2048x512, .bf16⟩
  | .hbm, ⟨96, _⟩ => ⟨S16x128x8, .f32⟩
  | .hbm, ⟨97, _⟩ => ⟨S2048x8, .f32⟩
  | .hbm, ⟨98, _⟩ => ⟨S_, .i32⟩
  | .hbm, ⟨99, _⟩ => ⟨S_, .f32⟩
  | .hbm, ⟨100, _⟩ => ⟨S2048x128, .f32⟩
  | .hbm, ⟨101, _⟩ => ⟨S16x128x8, .f32⟩
  | .hbm, ⟨102, _⟩ => ⟨S2048x8, .f32⟩
  | .hbm, ⟨103, _⟩ => ⟨S_, .i32⟩
  | .hbm, ⟨104, _⟩ => ⟨S_, .f32⟩
  | .hbm, ⟨105, _⟩ => ⟨S2048x128, .f32⟩
  | .hbm, ⟨106, _⟩ => ⟨S3x2048x512, .bf16⟩
  | .hbm, ⟨107, _⟩ => ⟨S8x128x256, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x128, .f32⟩
  | .local _ .vmem, ⟨5, _⟩ => ⟨S2048x128, .f32⟩
  | .local _ .vmem, ⟨6, _⟩ => ⟨S1x8x128x256, .f32⟩
  | .local _ .vmem, ⟨7, _⟩ => ⟨S3x2048x512, .bf16⟩
  | .local _ .vmem, ⟨8, _⟩ => ⟨S8x128x256, .f32⟩
  | .local _ .vmem, ⟨9, _⟩ => ⟨S2048x512, .f32⟩
  | .local _ .vmem, ⟨10, _⟩ => ⟨S2048x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_8 : Ref sig .tc := ⟨.hbm, 98, rfl⟩
abbrev main_call2_v0 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_9 : Ref sig .tc := ⟨.hbm, 103, rfl⟩
abbrev main_call3_v0 : Ref sig .tc := ⟨.hbm, 104, rfl⟩
abbrev main_v79 : Ref sig .tc := ⟨.hbm, 105, rfl⟩
abbrev main_v80_0 : Ref sig .tc := ⟨.hbm, 106, rfl⟩
abbrev main_v80_1 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  v21
def k0_off1 (k0_t1 : Fin k0_t1_loop.trips) : Fin 3 → Nat :=
  let c0_17 : Index := 0#32
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v23 : Index := Scalar.indexCast v22
  let c0_18 : Index := 0#32
  ![0, v23.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v44 : Index := Scalar.indexCast v22
  let c0_28 : Index := 0#32
  ![v44.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v53 : Index := Scalar.indexCast v22
  let c0_29 : Index := 0#32
  ![v53.toNat, 0]
def k0_off4 (k0_t1 : Fin k0_t1_loop.trips) : Fin 3 → Nat :=
  let c0_45 : Index := 0#32
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v94 : Index := Scalar.indexCast v22
  let c0_46 : Index := 0#32
  ![0, v94.toNat, 0]
def k0_off5 (k0_t1 : Fin k0_t1_loop.trips) : Fin 3 → Nat :=
  let c0_53 : Index := 0#32
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v115 : Index := Scalar.indexCast v22
  let c128_54 : Index := 128#32
  ![0, v115.toNat, 128]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v145 : Index := Scalar.indexCast v22
  let c128_66 : Index := 128#32
  ![v145.toNat, 128]
def k0_off7 (k0_t1 : Fin k0_t1_loop.trips) : Fin 3 → Nat :=
  let c0_83 : Index := 0#32
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v186 : Index := Scalar.indexCast v22
  let c128_84 : Index := 128#32
  ![0, v186.toNat, 128]
def k0_off8 (k0_t1 : Fin k0_t1_loop.trips) : Fin 3 → Nat :=
  let c0_91 : Index := 0#32
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v207 : Index := Scalar.indexCast v22
  let c256 : Index := 256#32
  ![0, v207.toNat, 256]
def k0_off9 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v237 : Index := Scalar.indexCast v22
  let c256_102 : Index := 256#32
  ![v237.toNat, 256]
def k0_off10 (k0_t1 : Fin k0_t1_loop.trips) : Fin 3 → Nat :=
  let c0_119 : Index := 0#32
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v278 : Index := Scalar.indexCast v22
  let c256_120 : Index := 256#32
  ![0, v278.toNat, 256]
def k0_off11 (k0_t1 : Fin k0_t1_loop.trips) : Fin 3 → Nat :=
  let c0_127 : Index := 0#32
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v299 : Index := Scalar.indexCast v22
  let c384 : Index := 384#32
  ![0, v299.toNat, 384]
def k0_off12 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v329 : Index := Scalar.indexCast v22
  let c384_138 : Index := 384#32
  ![v329.toNat, 384]
def k0_off13 (k0_t1 : Fin k0_t1_loop.trips) : Fin 3 → Nat :=
  let c0_155 : Index := 0#32
  let c0_i32 : BitVec 32 := 0#32
  let c1_i32 : BitVec 32 := 1#32
  let arg12 : BitVec 32 := Scf.iv c0_i32 c1_i32 k0_t1
  let c128_i32 : BitVec 32 := 128#32
  let v21 : BitVec 32 := Scalar.muli arg12 c128_i32
  let v22 : BitVec 32 := v21
  let v370 : Index := Scalar.indexCast v22
  let c384_156 : Index := 384#32
  ![0, v370.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2048x512 : Shape := ⟨2, ![2048, 512]⟩
abbrev S3x8x128x256 : Shape := ⟨4, ![3, 8, 128, 256]⟩
abbrev S2048x8 : Shape := ⟨2, ![2048, 8]⟩
abbrev S128x16x8x64 : Shape := ⟨4, ![128, 16, 8, 64]⟩
abbrev S128x16x8 : Shape := ⟨3, ![128, 16, 8]⟩
abbrev S1x8x128x256 : Shape := ⟨4, ![1, 8, 128, 256]⟩
abbrev S8x128x256 : Shape := ⟨3, ![8, 128, 256]⟩
abbrev S128 : Shape := ⟨1, ![128]⟩
abbrev S_ : Shape := ⟨0, ![]⟩
abbrev S16x8x128x128 : Shape := ⟨4, ![16, 8, 128, 128]⟩
abbrev S128x1 : Shape := ⟨2, ![128, 1]⟩
abbrev S1x128 : Shape := ⟨2, ![1, 128]⟩
abbrev S128x128 : Shape := ⟨2, ![128, 128]⟩
abbrev S8x128x128 : Shape := ⟨3, ![8, 128, 128]⟩
abbrev S1x8x128x128 : Shape := ⟨4, ![1, 8, 128, 128]⟩
abbrev S16x8x128 : Shape := ⟨3, ![16, 8, 128]⟩
abbrev S16x8x128x1 : Shape := ⟨4, ![16, 8, 128, 1]⟩
abbrev S16x8x128x64 : Shape := ⟨4, ![16, 8, 128, 64]⟩
abbrev S16x8x64x128 : Shape := ⟨4, ![16, 8, 64, 128]⟩
abbrev S128x16x512 : Shape := ⟨3, ![128, 16, 512]⟩
abbrev S16x128x512 : Shape := ⟨3, ![16, 128, 512]⟩
abbrev S1x2048x512 : Shape := ⟨3, ![1, 2048, 512]⟩
abbrev S3x2048x512 : Shape := ⟨3, ![3, 2048, 512]⟩

abbrev nBuf : Space → Nat
  | .hbm => 128
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S3x8x128x256, .f32⟩
  | .hbm, ⟨4, _⟩ => ⟨S2048x512, .f32⟩
  | .hbm, ⟨5, _⟩ => ⟨S2048x8, .f32⟩
  | .hbm, ⟨6, _⟩ => ⟨S128x16x8x64, .f32⟩
  | .hbm, ⟨7, _⟩ => ⟨S128x16x8, .f32⟩
  | .hbm, ⟨8, _⟩ => ⟨S1x8x128x256, .f32⟩
  | .hbm, ⟨9, _⟩ => ⟨S8x128x256, .f32⟩
  | .hbm, ⟨10, _⟩ => ⟨S128, .i32⟩
  | .hbm, ⟨11, _⟩ => ⟨S128x16x8x64, .f32⟩
  | .hbm, ⟨12, _⟩ => ⟨S_, .f32⟩
  | .hbm, ⟨13, _⟩ => ⟨S128x16x8x64, .f32⟩
  | .hbm, ⟨14, _⟩ => ⟨S128x16x8x64, .f32⟩
  | .hbm, ⟨15, _⟩ => ⟨S128x16x8x64, .f32⟩
  | .hbm, ⟨16, _⟩ => ⟨S16x8x128x128, .f32⟩
  | .hbm, ⟨17, _⟩ => ⟨S128x1, .i32⟩
  | .hbm, ⟨18, _⟩ => ⟨S1x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S8x128x128, .f32⟩
  | .hbm, ⟨23, _⟩ => ⟨S1x8x128x128, .f32⟩
  | .hbm, ⟨24, _⟩ => ⟨S16x8x128x128, .f32⟩
  | .hbm, ⟨25, _⟩ => ⟨S16x8x128x128, .f32⟩
  | .hbm, ⟨26, _⟩ => ⟨S_, .f32⟩
  | .hbm, ⟨27, _⟩ => ⟨S_, .f32⟩
  | .hbm, ⟨28, _⟩ => ⟨S16x8x128x128, .i1⟩
  | .hbm, ⟨29, _⟩ => ⟨S16x8x128x128, .f32⟩
  | .hbm, ⟨30, _⟩ => ⟨S16x8x128x128, .f32⟩
  | .hbm, ⟨31, _⟩ => ⟨S_, .f32⟩
  | .hbm, ⟨32, _⟩ => ⟨S16x8x128x128, .f32⟩
  | .hbm, ⟨33, _⟩ => ⟨S_, .f32⟩
  | .hbm, ⟨34, _⟩ => ⟨S16x8x128, .f32⟩
  | .hbm, ⟨35, _⟩ => ⟨S16x8x128x1, .f32⟩
  | .hbm, ⟨36, _⟩ => ⟨S16x8x128x128, .f32⟩
  | .hbm, ⟨37, _⟩ => ⟨S16x8x128x128, .i1⟩
  | .hbm, ⟨38, _⟩ => ⟨S16x8x128x128, .f32⟩
  | .hbm, ⟨39, _⟩ => ⟨S_, .f32⟩
  | .hbm, ⟨40, _⟩ => ⟨S16x8x128, .f32⟩
  | .hbm, ⟨41, _⟩ => ⟨S16x8x128x1, .f32⟩
  | .hbm, ⟨42, _⟩ => ⟨S16x8x128x128, .f32⟩
  | .hbm, ⟨43, _⟩ => ⟨S16x8x128x128, .f32⟩
  | .hbm, ⟨44, _⟩ => ⟨S16x8x128x128, .f32⟩
  | .hbm, ⟨45, _⟩ => ⟨S_, .f32⟩
  | .hbm, ⟨46, _⟩ => ⟨S16x8x128, .f32⟩
  | .hbm, ⟨47, _⟩ => ⟨S16x8x128x1, .f32⟩
  | .hbm, ⟨48, _⟩ => ⟨S128x16x8x64, .f32⟩
  | .hbm, ⟨49, _⟩ => ⟨S16x8x128x64, .f32⟩
  | .hbm, ⟨50, _⟩ => ⟨S16x8x128x64, .f32⟩
  | .hbm, ⟨51, _⟩ => ⟨S16x8x128x64, .f32⟩
  | .hbm, ⟨52, _⟩ => ⟨S16x8x128x1, .f32⟩
  | .hbm, ⟨53, _⟩ => ⟨S_, .f32⟩
  | .hbm, ⟨54, _⟩ => ⟨S16x8x128x1, .f32⟩
  | .hbm, ⟨55, _⟩ => ⟨S16x8x128x1, .f32⟩
  | .hbm, ⟨56, _⟩ => ⟨S16x8x128x1, .f32⟩
  | .hbm, ⟨57, _⟩ => ⟨S16x8x128x1, .f32⟩
  | .hbm, ⟨58, _⟩ => ⟨S16x8x128, .f32⟩
  | .hbm, ⟨59, _⟩ => ⟨S128x16x8x64, .f32⟩
  | .hbm, ⟨60, _⟩ => ⟨S128x16x8, .f32⟩
  | .hbm, ⟨61, _⟩ => ⟨S16x8x128, .f32⟩
  | .hbm, ⟨62, _⟩ => ⟨S16x8x128x64, .f32⟩
  | .hbm, ⟨63, _⟩ => ⟨S16x8x128x1, .f32⟩
  | .hbm, ⟨64, _⟩ => ⟨S16x8x128x1, .f32⟩
  | .hbm, ⟨65, _⟩ => ⟨S16x8x128x64, .f32⟩
  | .hbm, ⟨66, _⟩ => ⟨S16x8x128x64, .f32⟩
  | .hbm, ⟨67, _⟩ => ⟨S16x8x128x64, .f32⟩
  | .hbm, ⟨68, _⟩ => ⟨S_, .f32⟩
  | .hbm, ⟨69, _⟩ => ⟨S16x8x128, .f32⟩
  | .hbm, ⟨70, _⟩ => ⟨S16x8x128x1, .f32⟩
  | .hbm, ⟨71, _⟩ => ⟨S16x8x128x1, .f32⟩
  | .hbm, ⟨72, _⟩ => ⟨S16x8x128x1, .f32⟩
  | .hbm, ⟨73, _⟩ => ⟨S16x8x128x64, .f32⟩
  | .hbm, ⟨74, _⟩ => ⟨S16x8x128x64, .f32⟩
  | .hbm, ⟨75, _⟩ => ⟨S16x8x64x128, .f32⟩
  | .hbm, ⟨76, _⟩ => ⟨S128x16x8x64, .f32⟩
  | .hbm, ⟨77, _⟩ => ⟨S16x8x128x128, .f32⟩
  | .hbm, ⟨78, _⟩ => ⟨S2048x512, .f32⟩
  | .hbm, ⟨79, _⟩ => ⟨S_, .f32⟩
  | .hbm, ⟨80, _⟩ => ⟨S16x8x128, .f32⟩
  | .hbm, ⟨81, _⟩ => ⟨S16x8x128x128, .f32⟩
  | .hbm, ⟨82, _⟩ => ⟨S16x8x128x128, .f32⟩
  | .hbm, ⟨83, _⟩ => ⟨S16x8x128x128, .f32⟩
  | .hbm, ⟨84, _⟩ => ⟨S16x8x128x128, .f32⟩
  | .hbm, ⟨85, _⟩ => ⟨S_, .f32⟩
  | .hbm, ⟨86, _⟩ => ⟨S16x8x128, .f32⟩
  | .hbm, ⟨87, _⟩ => ⟨S16x8x128x1, .f32⟩
  | .hbm, ⟨88, _⟩ => ⟨S16x8x128x1, .f32⟩
  | .hbm, ⟨89, _⟩ => ⟨S_, .f32⟩
  | .hbm, ⟨90, _⟩ => ⟨S16x8x128, .f32⟩
  | .hbm, ⟨91, _⟩ => ⟨S16x8x128, .f32⟩
  | .hbm, ⟨92, _⟩ => ⟨S16x8x128x128, .f32⟩
  | .hbm, ⟨93, _⟩ => ⟨S16x8x128x128, .f32⟩
  | .hbm, ⟨94, _⟩ => ⟨S16x8x128x128, .f32⟩
  | .hbm, ⟨95, _⟩ => ⟨S_, .f32⟩
  | .hbm, ⟨96, _⟩ => ⟨S16x8x128x128, .f32⟩
  | .hbm, ⟨97, _⟩ => ⟨S16x8x128x128, .f32⟩
  | .hbm, ⟨98, _⟩ => ⟨S_, .f32⟩
  | .hbm, ⟨99, _⟩ => ⟨S8x128x128, .f32⟩
  | .hbm, ⟨100, _⟩ => ⟨S1x8x128x128, .f32⟩
  | .hbm, ⟨101, _⟩ => ⟨S_, .f32⟩
  | .hbm, ⟨102, _⟩ => ⟨S8x128x128, .f32⟩
  | .hbm, ⟨103, _⟩ => ⟨S_, .f32⟩
  | .hbm, ⟨104, _⟩ => ⟨S8x128x256, .f32⟩
  | .hbm, ⟨105, _⟩ => ⟨S16x8x128x64, .f32⟩
  | .hbm, ⟨106, _⟩ => ⟨S128x16x8x64, .f32⟩
  | .hbm, ⟨107, _⟩ => ⟨S16x8x128x64, .f32⟩
  | .hbm, ⟨108, _⟩ => ⟨S128x16x8x64, .f32⟩
  | .hbm, ⟨109, _⟩ => ⟨S2048x512, .f32⟩
  | .hbm, ⟨110, _⟩ => ⟨S_, .f32⟩
  | .hbm, ⟨111, _⟩ => ⟨S128x16x8x64, .f32⟩
  | .hbm, ⟨112, _⟩ => ⟨S128x16x8x64, .f32⟩
  | .hbm, ⟨113, _⟩ => ⟨S2048x512, .f32⟩
  | .hbm, ⟨114, _⟩ => ⟨S128x16x512, .f32⟩
  | .hbm, ⟨115, _⟩ => ⟨S16x128x512, .f32⟩
  | .hbm, ⟨116, _⟩ => ⟨S2048x512, .f32⟩
  | .hbm, ⟨117, _⟩ => ⟨S128x16x512, .f32⟩
  | .hbm, ⟨118, _⟩ => ⟨S16x128x512, .f32⟩
  | .hbm, ⟨119, _⟩ => ⟨S2048x512, .f32⟩
  | .hbm, ⟨120, _⟩ => ⟨S128x16x512, .f32⟩
  | .hbm, ⟨121, _⟩ => ⟨S16x128x512, .f32⟩
  | .hbm, ⟨122, _⟩ => ⟨S2048x512, .f32⟩
  | .hbm, ⟨123, _⟩ => ⟨S1x2048x512, .f32⟩
  | .hbm, ⟨124, _⟩ => ⟨S1x2048x512, .f32⟩
  | .hbm, ⟨125, _⟩ => ⟨S1x2048x512, .f32⟩
  | .hbm, ⟨126, _⟩ => ⟨S3x2048x512, .f32⟩
  | .hbm, ⟨127, _⟩ => ⟨S3x2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_v19_1 : Ref sig .tc := ⟨.hbm, 28, rfl⟩
abbrev main_call0_v2 : Ref sig .tc := ⟨.hbm, 29, rfl⟩
abbrev main_v19_0 : Ref sig .tc := ⟨.hbm, 30, rfl⟩
abbrev main_call0_cst : Ref sig .tc := ⟨.hbm, 31, rfl⟩
abbrev main_v19_2 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_8 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_call1_cst : Ref sig .tc := ⟨.hbm, 95, rfl⟩
abbrev main_call1_v0 : Ref sig .tc := ⟨.hbm, 96, rfl⟩
abbrev main_v74 : Ref sig .tc := ⟨.hbm, 97, rfl⟩
abbrev main_cst_9 : Ref sig .tc := ⟨.hbm, 98, rfl⟩
abbrev main_v75 : Ref sig .tc := ⟨.hbm, 99, rfl⟩
abbrev main_v76 : Ref sig .tc := ⟨.hbm, 100, rfl⟩
abbrev main_cst_10 : Ref sig .tc := ⟨.hbm, 101, rfl⟩
abbrev main_v77 : Ref sig .tc := ⟨.hbm, 102, rfl⟩
abbrev main_cst_11 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_12 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩

abbrev nD : Nat := 1
abbrev τ : Topo := Topo.v7x

variable {F : FTy → Type} [FloatOps F]
-- ==== Kernel2.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S4x1x704x1024 : Shape := ⟨4, ![4, 1, 704, 1024]⟩
abbrev S2048x4x704 : Shape := ⟨3, ![2048, 4, 704]⟩
abbrev S4x2048x704 : Shape := ⟨3, ![4, 2048, 704]⟩
abbrev S1024x1024 : Shape := ⟨2, ![1024, 1024]⟩
abbrev S1x1024x704 : Shape := ⟨3, ![1, 1024, 704]⟩
abbrev S1x1x704x1024 : Shape := ⟨4, ![1, 1, 704, 1024]⟩
abbrev S704x1024 : Shape := ⟨2, ![704, 1024]⟩
abbrev S1024x704 : Shape := ⟨2, ![1024, 704]⟩

abbrev nBuf : Space → Nat
  | .hbm => 51
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S1024x2816, .f32⟩
  | .hbm, ⟨16, _⟩ => ⟨S2048x2816, .f32⟩
  | .hbm, ⟨17, _⟩ => ⟨S_, .bf16⟩
  | .hbm, ⟨18, _⟩ => ⟨S4x1x704x1024, .bf16⟩
  | .hbm, ⟨19, _⟩ => ⟨S_, .bf16⟩
  | .hbm, ⟨20, _⟩ => ⟨S4x1x704x1024, .bf16⟩
  | .hbm, ⟨21, _⟩ => ⟨S_, .bf16⟩
  | .hbm, ⟨22, _⟩ => ⟨S4x1x704x1024, .bf16⟩
  | .hbm, ⟨23, _⟩ => ⟨S2048x1024, .bf16⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x4x704, .f32⟩
  | .hbm, ⟨35, _⟩ => ⟨S4x2048x704, .f32⟩
  | .hbm, ⟨36, _⟩ => ⟨S4x2048x704, .bf16⟩
  | .hbm, ⟨37, _⟩ => ⟨S2048x2816, .f32⟩
  | .hbm, ⟨38, _⟩ => ⟨S2048x2816, .f32⟩
  | .hbm, ⟨39, _⟩ => ⟨S2048x4x704, .f32⟩
  | .hbm, ⟨40, _⟩ => ⟨S4x2048x704, .f32⟩
  | .hbm, ⟨41, _⟩ => ⟨S4x2048x704, .bf16⟩
  | .hbm, ⟨42, _⟩ => ⟨S2048x2816, .f32⟩
  | .hbm, ⟨43, _⟩ => ⟨S2048x2816, .f32⟩
  | .hbm, ⟨44, _⟩ => ⟨S2048x4x704, .f32⟩
  | .hbm, ⟨45, _⟩ => ⟨S4x2048x704, .f32⟩
  | .hbm, ⟨46, _⟩ => ⟨S4x2048x704, .bf16⟩
  | .hbm, ⟨47, _⟩ => ⟨S2048x1024, .bf16⟩
  | .hbm, ⟨48, _⟩ => ⟨S4x1x704x1024, .bf16⟩
  | .hbm, ⟨49, _⟩ => ⟨S4x1x704x1024, .bf16⟩
  | .hbm, ⟨50, _⟩ => ⟨S4x1x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .bf16⟩
  | .local _ .vmem, ⟨9, _⟩ => ⟨S1024x1024, .bf16⟩
  | .local _ .vmem, ⟨10, _⟩ => ⟨S1x1x704x1024, .bf16⟩
  | .local _ .vmem, ⟨11, _⟩ => ⟨S1x1x704x1024, .bf16⟩
  | .local _ .vmem, ⟨12, _⟩ => ⟨S1x1x704x1024, .bf16⟩
  | .local _ .vmem, ⟨13, _⟩ => ⟨S1x1x704x1024, .bf16⟩
  | .local _ .vmem, ⟨14, _⟩ => ⟨S1x1x704x1024, .bf16⟩
  | .local _ .vmem, ⟨15, _⟩ => ⟨S1x1x704x1024, .bf16⟩
  | .local _ .vmem, ⟨16, _⟩ => ⟨S704x1024, .f32⟩
  | .local _ .vmem, ⟨17, _⟩ => ⟨S704x1024, .f32⟩
  | .local _ .vmem, ⟨18, _⟩ => ⟨S704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_27 : BitVec 32 := 0#32
  let v33 : BitVec 1 := Scalar.cmpi .ne v32 c0_i32_27
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S4x1x704x1024 : Shape := ⟨4, ![4, 1, 704, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S1024x2816, .f32⟩
  | .hbm, ⟨23, _⟩ => ⟨S2816x1024, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2816x1024, .f32⟩
  | .hbm, ⟨28, _⟩ => ⟨S1024x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2816x1024, .f32⟩
  | .hbm, ⟨34, _⟩ => ⟨S1024x2816, .f32⟩
  | .hbm, ⟨35, _⟩ => ⟨S2816x1024, .f32⟩
  | .hbm, ⟨36, _⟩ => ⟨S2816x1024, .f32⟩
  | .hbm, ⟨37, _⟩ => ⟨S4x1x704x1024, .f32⟩
  | .hbm, ⟨38, _⟩ => ⟨S4x1x704x1024, .bf16⟩
  | .hbm, ⟨39, _⟩ => ⟨S4x1x704x1024, .f32⟩
  | .hbm, ⟨40, _⟩ => ⟨S4x1x704x1024, .bf16⟩
  | .hbm, ⟨41, _⟩ => ⟨S4x1x704x1024, .f32⟩
  | .hbm, ⟨42, _⟩ => ⟨S4x1x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel3.lean ====
abbrev S2048x1024 : Shape := ⟨2, ![2048, 1024]⟩
abbrev S3x1024 : Shape := ⟨2, ![3, 1024]⟩
abbrev S1024x2816 : Shape := ⟨2, ![1024, 2816]⟩
abbrev S2816x1024 : Shape := ⟨2, ![2816, 1024]⟩
abbrev S1024 : Shape := ⟨1, ![1024]⟩
abbrev S4x1x704x1024 : Shape := ⟨4, ![4, 1, 704, 1024]⟩
abbrev S1x1024 : Shape := ⟨2, ![1, 1024]⟩
abbrev S4x2048x704 : Shape := ⟨3, ![4, 2048, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 23
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S2816x1024, .f32⟩
  | .hbm, ⟨8, _⟩ => ⟨S4x1x704x1024, .f32⟩
  | .hbm, ⟨9, _⟩ => ⟨S4x1x704x1024, .bf16⟩
  | .hbm, ⟨10, _⟩ => ⟨S2816x1024, .f32⟩
  | .hbm, ⟨11, _⟩ => ⟨S4x1x704x1024, .f32⟩
  | .hbm, ⟨12, _⟩ => ⟨S4x1x704x1024, .bf16⟩
  | .hbm, ⟨13, _⟩ => ⟨S4x1x704x1024, .f32⟩
  | .hbm, ⟨14, _⟩ => ⟨S4x1x704x1024, .bf16⟩
  | .hbm, ⟨15, _⟩ => ⟨S1x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S4x2048x704, .bf16⟩
  | .hbm, ⟨20, _⟩ => ⟨S4x2048x704, .bf16⟩
  | .hbm, ⟨21, _⟩ => ⟨S4x2048x704, .bf16⟩
  | .hbm, ⟨22, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S3x1024, .f32⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1024x1024, .bf16⟩
  | .local _ .vmem, ⟨22, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_29 : BitVec 32 := 0#32
  let v35 : BitVec 1 := Scalar.cmpi .ne v34 c0_i32_29
  v35

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S2048x1024 : Shape := ⟨2, ![2048, 1024]⟩
abbrev S3x1024 : Shape := ⟨2, ![3, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 107
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S_, .f32⟩
  | .hbm, ⟨48, _⟩ => ⟨S2048x2816, .f32⟩
  | .hbm, ⟨49, _⟩ => ⟨S2048x2816, .f32⟩
  | .hbm, ⟨50, _⟩ => ⟨S_, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S1x1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S2048x1, .f32⟩
  | .hbm, ⟨89, _⟩ => ⟨S2048x1024, .f32⟩
  | .hbm, ⟨90, _⟩ => ⟨S2048x1024, .f32⟩
  | .hbm, ⟨91, _⟩ => ⟨S1x1024, .f32⟩
  | .hbm, ⟨92, _⟩ => ⟨S2048x1024, .f32⟩
  | .hbm, ⟨93, _⟩ => ⟨S2048x1024, .f32⟩
  | .hbm, ⟨94, _⟩ => ⟨S1x1024, .f32⟩
  | .hbm, ⟨95, _⟩ => ⟨S2048x1024, .f32⟩
  | .hbm, ⟨96, _⟩ => ⟨S2048x1024, .f32⟩
  | .hbm, ⟨97, _⟩ => ⟨S2048x4x704, .f32⟩
  | .hbm, ⟨98, _⟩ => ⟨S4x2048x704, .f32⟩
  | .hbm, ⟨99, _⟩ => ⟨S4x2048x704, .bf16⟩
  | .hbm, ⟨100, _⟩ => ⟨S2048x4x704, .f32⟩
  | .hbm, ⟨101, _⟩ => ⟨S4x2048x704, .f32⟩
  | .hbm, ⟨102, _⟩ => ⟨S4x2048x704, .bf16⟩
  | .hbm, ⟨103, _⟩ => ⟨S2048x4x704, .f32⟩
  | .hbm, ⟨104, _⟩ => ⟨S4x2048x704, .f32⟩
  | .hbm, ⟨105, _⟩ => ⟨S4x2048x704, .bf16⟩
  | .hbm, ⟨106, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel4.lean ====
abbrev S2048x1024 : Shape := ⟨2, ![2048, 1024]⟩
abbrev S2048x2048 : Shape := ⟨2, ![2048, 2048]⟩
abbrev S2048x4x512 : Shape := ⟨3, ![2048, 4, 512]⟩
abbrev S4x2048x512 : Shape := ⟨3, ![4, 2048, 512]⟩
abbrev S_ : Shape := ⟨0, ![]⟩
abbrev S4x1x1024x512 : Shape := ⟨4, ![4, 1, 1024, 512]⟩
abbrev S1024x1024 : Shape := ⟨2, ![1024, 1024]⟩
abbrev S1x1024x512 : Shape := ⟨3, ![1, 1024, 512]⟩
abbrev S1x1x1024x512 : Shape := ⟨4, ![1, 1, 1024, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x4x512, .f32⟩
  | .hbm, ⟨3, _⟩ => ⟨S4x2048x512, .f32⟩
  | .hbm, ⟨4, _⟩ => ⟨S4x2048x512, .bf16⟩
  | .hbm, ⟨5, _⟩ => ⟨S_, .bf16⟩
  | .hbm, ⟨6, _⟩ => ⟨S4x1x1024x512, .bf16⟩
  | .hbm, ⟨7, _⟩ => ⟨S2048x1024, .bf16⟩
  | .hbm, ⟨8, _⟩ => ⟨S4x1x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S2048x1024 : Shape := ⟨2, ![2048, 1024]⟩
abbrev S2048x2048 : Shape := ⟨2, ![2048, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S4x1x1024x512 : Shape := ⟨4, ![4, 1, 1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .f32⟩
  | .hbm, ⟨3, _⟩ => ⟨S1024x2048, .f32⟩
  | .hbm, ⟨4, _⟩ => ⟨S1024x4x512, .f32⟩
  | .hbm, ⟨5, _⟩ => ⟨S4x1024x512, .f32⟩
  | .hbm, ⟨6, _⟩ => ⟨S4x1x1024x512, .f32⟩
  | .hbm, ⟨7, _⟩ => ⟨S4x1x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.KernelFrame.lean ====
module

public import proofs.«01_k».proof.Proof.Gen.Kernel.Frame.Runs
public import Idealize.ShloMosaic.Lib.Claim

@[expose] public section

/-
  The frame of the kernel as printed.  The claim names nothing of what the two results hold, so their windows are forgotten:
  the body is only shown to run, from any contents to any contents.
-/

set_option maxRecDepth 16384

noncomputable section

namespace Cert.Kernel.Own

open Idealize.ShloMosaic Idealize.ShloMosaic.TcCoe Idealize.ShloMosaic.Tactic Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body runs, leaving its inputs as they were. -/
theorem body_runs (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S2048x512 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x8x128x256 .f32) (harg7 : arg7.IsWhole) (arg8 : Memref sig .tc .vmem S3x2048x512 .bf16) (harg8 : arg8.IsWhole) (arg9 : Memref sig .tc .vmem S8x128x256 .f32) (harg9 : arg9.IsWhole) (arg10 : Memref sig .tc .vmem S2048x512 .f32) (harg10 : arg10.IsWhole) (arg11 : Memref sig .tc .vmem S2048x512 .f32) (harg11 : arg11.IsWhole)
    (x0 : Vec F S1x2048x512 .bf16) (x1 : Vec F S1x2048x512 .bf16) (x2 : Vec F S1x2048x512 .bf16) (x3 : Vec F S2048x512 .bf16) (x4 : Vec F S2048x128 .f32) (x5 : Vec F S2048x128 .f32) (x6 : Vec F S1x8x128x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_att_bwd i arg1 harg1 arg2 harg2 arg3 harg3 arg4 harg4 arg5 harg5 arg6 harg6 arg7 harg7 arg8 harg8 arg9 harg9 arg10 harg10 arg11 harg11) K := by
  intro E K
  simp only [cc0_att_bwd_eq_skeleton]; unfold cc0_att_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]; · iexists _; isplitr; swap; (· iexact H0); ipureintro; exact harg1.read_unread _
  isplitl [H1]; · iexists _; isplitr; swap; (· iexact H1); ipureintro; exact harg2.read_unread _
  isplitl [H2]; · iexists _; isplitr; swap; (· iexact H2); ipureintro; exact harg3.read_unread _
  isplitl [H3]; · iexists _; isplitr; swap; (· iexact H3); ipureintro; exact harg4.read_unread _
  isplitl [H4]; · iexists _; isplitr; swap; (· iexact H4); ipureintro; exact harg5.read_unread _
  isplitl [H5]; · iexists _; isplitr; swap; (· iexact H5); ipureintro; exact harg6.read_unread _
  isplitl [H6]; · iexists _; isplitr; swap; (· iexact H6); ipureintro; exact harg7.read_unread _
  isplitl [H7]
  · iexists _, _; isplitr
    swap; · iexact H7
    ipureintro; rfl
  isplitl [H8]
  · iexists _, _; isplitr
    swap; · iexact H8
    ipureintro; rfl
  isplitl [HS0]
  · iexists _, _; isplitr
    swap; · iexact HS0
    ipureintro; rfl
  iexists _, _; isplitr
  swap; · iexact HS1
  ipureintro; rfl

/-- The windows of the results. -/
def results : Fin cfg0.W → Bool := fun w => w == 7 || w == 8

/-- The launch's proof data: each input's block left as it was; of the results nothing is read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => VO0_7.read (Elt F) VO0_7.junk
    | ⟨8, _⟩ => VO0_8.read (Elt F) VO0_8.junk
  Φ _ := Pipeline.ΦA spec0 c
  q w := Pipeline.shareOf spec0 w
  owed _ := 0

/-- The arrays are what the host code before the launch left. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ X, owns (c : Thread nD τ) (ms0_7 t) fullShare X)
    ∗ (∃ X, owns (c : Thread nD τ) (ms0_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, owns (c : Thread nD τ) (ms0_7 t) fullShare X)
    ∗ (∃ X, owns (c : Thread nD τ) (ms0_8 t) fullShare X))

set_option maxHeartbeats 800000 in
/-- The body at the grid's point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7, H8⟩
  iapply (body_runs c (grid0.coords t) _ _ _ _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the table names is the body at the point. -/
theorem defs₀_row (t : Fin cfg0.N) :
    defs₀ (F := F) .tc cfg0.body (cfg0.bodyArgs t (cfg0.slots t)) = bodyAt0 t := by
  unfold defs₀; rw [Defs.onTc_tc]

/-- The launch's obligation for its body. -/
theorem body_obligation (c : Dev nD) : BodyObligation (dats m 0 c) (defs₀ (F := F)) Variants.none () Set.univ results := fun t => by
  rw [bigSep_W0, bigSep_W0, defs₀_row]
  exact triple_restated (sound_body m c t) rfl .rfl fun _ => .rfl

-- the launch theorem's implicit arguments are found by unfolding plain definitions in types
set_option backward.isDefEq.respectTransparency.types false in
/-- Every run ends with every array outside the windows as the host code left it and every counter at zero. -/
theorem run_main : θ_run defs (onTc (τ := τ) (main (F := F))) (s₀ m ρ)
    (fun r => (Pipeline.RDat.FramePost (cfgs 0) (fun c => (dats m 0 c).toRForget results) (V m)) r ∧ r.2.sem = fun _ => 0) :=
  Pipeline.θ_run_frame_forget_shared (Q' := _) cfgs (dats m) (0 : Fin 1) launch₀0 defs₀ Variants.none results m ρ main
    (hbody := fun c => (body_obligation m c).loose) (hq := fun _ _ _ => rfl)
    (howed := fun _ _ => rfl) (V := V m) (hmain := hmain m Variants.none) (hA := A_eq m) (hΦ := fun _ _ => rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Own

end
-- ==== Proof.Stages.lean ====
module

public import proofs.«01_k».proof.Proof.Gen.ReferenceIdeal.Read
public import Idealize.ShloMosaic.Lib.Pointwise

@[expose] public section

/-
  The reference's stages read at an index: a token is a row of its residue, a column is an entry of a head.
-/

set_option maxRecDepth 16384

noncomputable section

namespace Cert.ReferenceIdeal.Own

open Idealize.ShloMosaic Idealize.ShloMosaic.TcCoe Cert.ReferenceIdeal Cert.ReferenceIdeal.Gen Cert.ReferenceIdeal.Read

/-- Row `i` of residue `r` among the tokens. -/
def tok (i : Fin 128) (r : Fin 16) : Fin 2048 := ⟨i.val * 16 + r.val, by omega⟩

/-- Entry `e` of head `h` among the columns. -/
def entry (h : Fin 8) (e : Fin 64) : Fin 512 := ⟨h.val * 64 + e.val, by omega⟩

/-- The current block's column `j` in the bias. -/
def cur (j : Fin 128) : Fin 256 := ⟨128 + j.val, by omega⟩

variable (q k v : Vec Ideal S2048x512 .f32) (b : Vec Ideal S3x8x128x256 .f32) (g : Vec Ideal S2048x512 .f32) (l : Vec Ideal S2048x8 .f32)

/-- The scale of the queries. -/
abbrev eighth : EReal := Ideal.ofBits .f32 0x3E000000#32

theorem split_apply (t : Vec Ideal S2048x512 .f32) (i : Fin 128) (r : Fin 16) (h : Fin 8) (e : Fin 64) :
    shapeCast S128x16x8x64 t shapeCasts_S2048x512_S128x16x8x64 (ix4 i r h e) = t (ix2 (tok i r) (entry h e)) := by
  pointwise []
  rfl

theorem queries_apply (i : Fin 128) (r : Fin 16) (h : Fin 8) (e : Fin 64) :
    val_main_v7 (F := Ideal) q (ix4 i r h e) = q (ix2 (tok i r) (entry h e)) * eighth := by
  unfold val_main_v7 val_main_v5 val_main_v6 val_main_cst
  pointwise []
  rfl

theorem products_apply (r : Fin 16) (h : Fin 8) (i j : Fin 128) :
    val_main_v9 (F := Ideal) q k (ix4 r h i j)
      = ∑ e : Fin 64, val_main_v7 (F := Ideal) q (ix4 i r h e) * k (ix2 (tok j r) (entry h e)) := by
  pointwise [val_main_v9, val_main_v8]
  rfl

theorem scores_apply (r : Fin 16) (h : Fin 8) (i j : Fin 128) :
    val_main_v19_0 (F := Ideal) q k b (ix4 r h i j)
      = Scalar.select (IntOp.cmpi CmpIPredicate.sge (BitVec.ofNat 32 i.val) (BitVec.ofNat 32 j.val))
          (val_main_v9 (F := Ideal) q k (ix4 r h i j) + b (ix4 2 h i (cur j))) (Ideal.ofBits .f32 0xFF800000#32) := by
  pointwise [val_main_v19_0, val_main_v19_1, val_main_v14, val_main_v13, val_main_v12, val_main_v11, val_main_v10, val_main_v4, val_main_v18, val_main_v17, val_main_v16, val_main_v15, val_main_v3, val_main_v2, val_main_call0_v2, val_main_call0_v0, val_main_cst_0]
  rfl

theorem top_apply (r : Fin 16) (h : Fin 8) (i : Fin 128) :
    val_main_v20 (F := Ideal) q k b (ix3 r h i)
      = Finset.fold max (Ideal.ofBits .f32 0xFF800000#32) (fun x => val_main_v19_0 (F := Ideal) q k b (ix4 r h i x)) Finset.univ := by
  pointwise [val_main_v20, val_main_cst_1]

theorem weights_apply (r : Fin 16) (h : Fin 8) (i j : Fin 128) :
    val_main_v29 (F := Ideal) q k b (ix4 r h i j)
      = Ideal.exp (val_main_v19_0 (F := Ideal) q k b (ix4 r h i j) - val_main_v20 (F := Ideal) q k b (ix3 r h i)) := by
  pointwise [val_main_v29, val_main_v28, val_main_v27, val_main_v26]

theorem total_apply (r : Fin 16) (h : Fin 8) (i : Fin 128) :
    val_main_v30 (F := Ideal) q k b (ix3 r h i) = ∑ j : Fin 128, val_main_v29 (F := Ideal) q k b (ix4 r h i j) := by
  pointwise [val_main_v30, val_main_cst_3]

theorem numer_apply (r : Fin 16) (h : Fin 8) (i : Fin 128) (e : Fin 64) :
    val_main_v33 (F := Ideal) q k v b (ix4 r h i e)
      = ∑ j : Fin 128, val_main_v29 (F := Ideal) q k b (ix4 r h i j) * v (ix2 (tok j r) (entry h e)) := by
  pointwise [val_main_v33, val_main_v32]
  rfl

theorem output_apply (r : Fin 16) (h : Fin 8) (i : Fin 128) (e : Fin 64) :
    val_main_v42 (F := Ideal) q k v b (ix4 i r h e)
      = Ideal.div (val_main_v33 (F := Ideal) q k v b (ix4 r h i e)) (val_main_v30 (F := Ideal) q k b (ix3 r h i)) := by
  pointwise [val_main_v42, val_main_v35, val_main_v34, val_main_v31]

theorem lse_column (r : Fin 16) (h : Fin 8) (i : Fin 128) :
    val_main_v40 (F := Ideal) q k b (ix4 r h i 0)
      = val_main_v20 (F := Ideal) q k b (ix3 r h i) + Ideal.log (val_main_v30 (F := Ideal) q k b (ix3 r h i)) := by
  rw [val_main_v40_apply, val_main_v39_apply]
  refine congrArg₂ (· + ·) ?_ (congrArg Ideal.log ?_)
  · pointwise [val_main_v26]
  · pointwise [val_main_v31]

theorem lse_apply (r : Fin 16) (h : Fin 8) (i : Fin 128) :
    val_main_v43 (F := Ideal) q k b (ix3 i r h)
      = val_main_v20 (F := Ideal) q k b (ix3 r h i) + Ideal.log (val_main_v30 (F := Ideal) q k b (ix3 r h i)) := by
  rw [← lse_column]
  pointwise [val_main_v43, val_main_v41]

theorem gout_apply (r : Fin 16) (h : Fin 8) (i : Fin 128) (e : Fin 64) :
    val_main_v56 (F := Ideal) q k b g (ix4 r h i e)
      = Ideal.div (g (ix2 (tok i r) (entry h e))) (val_main_v30 (F := Ideal) q k b (ix3 r h i)) := by
  pointwise [val_main_v56, val_main_v55, val_main_v45, val_main_v31, val_main_v0]
  rfl

theorem glse_apply (r : Fin 16) (h : Fin 8) (i : Fin 128) (o : Fin 1) :
    val_main_v46 (F := Ideal) l (ix4 r h i o) = l (ix2 (tok i r) h) := by
  pointwise [val_main_v46, val_main_v44, val_main_v1]
  rfl

theorem inner_apply (r : Fin 16) (h : Fin 8) (i : Fin 128) :
    val_main_v51 (F := Ideal) q k v b g (ix3 r h i)
      = ∑ e : Fin 64, g (ix2 (tok i r) (entry h e))
          * Ideal.div (Ideal.ofBits .f32 0x3F800000#32) (val_main_v30 (F := Ideal) q k b (ix3 r h i) * val_main_v30 (F := Ideal) q k b (ix3 r h i))
          * val_main_v33 (F := Ideal) q k v b (ix4 r h i e) := by
  pointwise [val_main_v51, val_main_v50, val_main_v49, val_main_v48, val_main_v38, val_main_v37, val_main_v36, val_main_v31, val_main_v45, val_main_v0, val_main_cst_4, val_main_cst_5]
  rfl

theorem gtotal_apply (r : Fin 16) (h : Fin 8) (i : Fin 128) :
    val_main_v61 (F := Ideal) q k v b g l (ix3 r h i)
      = Ideal.div (l (ix2 (tok i r) h)) (val_main_v30 (F := Ideal) q k b (ix3 r h i)) + -val_main_v51 (F := Ideal) q k v b g (ix3 r h i) := by
  pointwise [val_main_v61, val_main_v54, val_main_v53, val_main_v52, val_main_v47, val_main_v46, val_main_v44, val_main_v1, val_main_v31, val_main_cst_6]
  rw [Finset.univ_unique, Finset.sum_singleton]
  rfl

theorem gweights_apply (r : Fin 16) (h : Fin 8) (i j : Fin 128) :
    val_main_v64 (F := Ideal) q k v b g l (ix4 r h i j)
      = (∑ e : Fin 64, val_main_v56 (F := Ideal) q k b g (ix4 r h i e) * v (ix2 (tok j r) (entry h e))
          + val_main_v61 (F := Ideal) q k v b g l (ix3 r h i)) * val_main_v29 (F := Ideal) q k b (ix4 r h i j) := by
  pointwise [val_main_v64, val_main_v63, val_main_v62, val_main_v59, val_main_v32]
  rfl

theorem gtop_apply (r : Fin 16) (h : Fin 8) (i : Fin 128) :
    val_main_v69 (F := Ideal) q k v b g l (ix3 r h i)
      = l (ix2 (tok i r) h) + ∑ j : Fin 128, -val_main_v64 (F := Ideal) q k v b g l (ix4 r h i j) := by
  pointwise [val_main_v69, val_main_v68, val_main_v67, val_main_v66, val_main_v65, val_main_v46, val_main_v44, val_main_v1, val_main_cst_7, val_main_cst_8]
  rw [Finset.univ_unique, Finset.sum_singleton]
  rfl

theorem hits_apply (r : Fin 16) (h : Fin 8) (i j : Fin 128) :
    val_main_v24 (F := Ideal) q k b (ix4 r h i j)
      = if val_main_v19_0 (F := Ideal) q k b (ix4 r h i j) = val_main_v20 (F := Ideal) q k b (ix3 r h i) then 1 else 0 := by
  pointwise [val_main_v24, val_main_v23, val_main_v22, val_main_v21]
  split_ifs with hs
  · rw [decide_eq_true hs]
    show (((1 : ℕ) : ℝ) : EReal) = 1
    simp
  · rw [decide_eq_false hs]
    show (((0 : ℕ) : ℝ) : EReal) = 0
    simp

theorem count_apply (r : Fin 16) (h : Fin 8) (i : Fin 128) :
    val_main_v25 (F := Ideal) q k b (ix3 r h i) = ∑ j : Fin 128, val_main_v24 (F := Ideal) q k b (ix4 r h i j) := by
  pointwise [val_main_v25, val_main_cst_2]

theorem gscores_apply (r : Fin 16) (h : Fin 8) (i j : Fin 128) :
    val_main_v74 (F := Ideal) q k v b g l (ix4 r h i j)
      = Scalar.select (IntOp.cmpi CmpIPredicate.sge (BitVec.ofNat 32 i.val) (BitVec.ofNat 32 j.val))
          (val_main_v64 (F := Ideal) q k v b g l (ix4 r h i j)
            + Ideal.div (val_main_v69 (F := Ideal) q k v b g l (ix3 r h i)) (val_main_v25 (F := Ideal) q k b (ix3 r h i))
              * val_main_v24 (F := Ideal) q k b (ix4 r h i j)) (Ideal.ofBits .f32 0x00000000#32) := by
  pointwise [val_main_v74, val_main_v19_1, val_main_v14, val_main_v13, val_main_v12, val_main_v11, val_main_v10, val_main_v4, val_main_v73, val_main_v72, val_main_v71, val_main_v70, val_main_call1_v0, val_main_call1_cst]

theorem gbias_apply (h : Fin 8) (i j : Fin 128) :
    val_main_v77 (F := Ideal) q k v b g l (ix3 h i j) = ∑ r : Fin 16, val_main_v74 (F := Ideal) q k v b g l (ix4 r h i j) := by
  pointwise [val_main_v77, val_main_v76, val_main_v75, val_main_cst_9, val_main_cst_10]
  rw [Finset.univ_unique, Finset.sum_singleton]

theorem gpad_right (h : Fin 8) (i j : Fin 128) :
    val_main_v78 (F := Ideal) q k v b g l (ix3 h i (cur j)) = val_main_v77 (F := Ideal) q k v b g l (ix3 h i j) := by
  pointwise [val_main_v78, val_main_cst_11, cur]

theorem gvalues_apply (r : Fin 16) (h : Fin 8) (j : Fin 128) (e : Fin 64) :
    val_main_v60 (F := Ideal) q k b g (ix2 (tok j r) (entry h e))
      = ∑ i : Fin 128, val_main_v56 (F := Ideal) q k b g (ix4 r h i e) * val_main_v29 (F := Ideal) q k b (ix4 r h i j) := by
  pointwise [val_main_v60, val_main_v58, val_main_v57, tok, entry]

theorem gkeys_apply (r : Fin 16) (h : Fin 8) (j : Fin 128) (e : Fin 64) :
    val_main_v83 (F := Ideal) q k v b g l (ix2 (tok j r) (entry h e))
      = ∑ i : Fin 128, val_main_v74 (F := Ideal) q k v b g l (ix4 r h i j) * val_main_v7 (F := Ideal) q (ix4 i r h e) := by
  pointwise [val_main_v83, val_main_v80, val_main_v79, tok, entry]

theorem gqueries_apply (r : Fin 16) (h : Fin 8) (i : Fin 128) (e : Fin 64) :
    val_main_v86 (F := Ideal) q k v b g l (ix2 (tok i r) (entry h e))
      = (∑ j : Fin 128, val_main_v74 (F := Ideal) q k v b g l (ix4 r h i j) * k (ix2 (tok j r) (entry h e))) * eighth := by
  pointwise [val_main_v86, val_main_v85, val_main_v84, val_main_v82, val_main_v81, val_main_v8, val_main_cst_12, tok, entry]

theorem gpad_left (h : Fin 8) (i j : Fin 128) :
    val_main_v78 (F := Ideal) q k v b g l (ix3 h i ⟨j.val, by omega⟩) = 0 := by
  pointwise [val_main_v78, val_main_cst_11]
  exact dif_neg fun hf => hf.1

theorem stacked_apply (r : Fin 16) (i : Fin 128) (a : Fin 3) (c : Fin 512) :
    val_main_v100 (F := Ideal) q k v b g l (ix3 a ⟨r.val * 128 + i.val, by omega⟩ c)
      = if a = 0 then val_main_v86 (F := Ideal) q k v b g l (ix2 (tok i r) c)
        else if a = 1 then val_main_v83 (F := Ideal) q k v b g l (ix2 (tok i r) c)
        else val_main_v60 (F := Ideal) q k b g (ix2 (tok i r) c) := by
  pointwise [val_main_v100, val_main_v99, val_main_v98, val_main_v97, val_main_v96, val_main_v95, val_main_v94, val_main_v93, val_main_v92, val_main_v91, val_main_v90, val_main_v89, val_main_v88, val_main_v87]
  fin_cases a <;> rfl

end Cert.ReferenceIdeal.Own

end
-- ==== Proof.Pair.lean ====
module

public import proofs.«01_k».proof.Proof.Gen.KernelIdeal.Loops

@[expose] public section

/-
  One trip of the kernel's loop treats the eight heads in four pairs. This module writes what a pair's stores put
  down once, as functions of the loads of that pair, and shows that the stores of a trip are those functions at the four
  pairs of columns.
-/

set_option maxRecDepth 65536

noncomputable section

namespace Cert.KernelIdeal.Own

open Idealize.ShloMosaic Idealize.ShloMosaic.TcCoe Idealize.SL Idealize.SL.Sem Cert.KernelIdeal Cert.KernelIdeal.Gen

variable {F : FTy → Type} [FloatOps F]

/-- The loads of one pair of heads: a block of 128 rows of the queries, keys, values and output gradients, the two heads'
masked bias, and the two heads' columns of the log-sums and of the row constants. -/
structure PairIn (F : FTy → Type) where
  q : Vec F S1x128x128 .bf16
  k : Vec F S1x128x128 .bf16
  v : Vec F S1x128x128 .bf16
  g : Vec F S128x128 .bf16
  b : Vec F S1x2x128x256 .f32
  la : FVec F S128x1 .f32
  lb : FVec F S128x1 .f32
  ca : FVec F S128x1 .f32
  cb : FVec F S128x1 .f32

/-- Two heads side by side in the lanes, stacked in the rows: each copy keeps the lanes of its own head. -/
def stacked (z : FVec F S128x128 .bf16) : FVec F S256x128 .bf16 :=
  concatenate S256x128 0
    [⟨S128x128, select (cmpi .slt (iota .tc S128x128 32 [1] iota_S128x128_d1_w32) (broadcast S128x128 64#32)) z
        (broadcast S128x128 (Scalar.ofBits .bf16 0x0000#16))⟩,
      ⟨S128x128, select (cmpi .sge (iota .tc S128x128 32 [1] iota_S128x128_d1_w32) (broadcast S128x128 64#32)) z
        (broadcast S128x128 (Scalar.ofBits .bf16 0x0000#16))⟩]
    concatenates_S128x128_S128x128_S256x128_d0

/-- Two columns stacked and spread over the lanes. -/
def spread (a b : FVec F S128x1 .f32) : FVec F S256x128 .f32 :=
  broadcastTo S256x128 (concatenate S256x1 0 [⟨S128x1, a⟩, ⟨S128x1, b⟩] concatenates_S128x1_S128x1_S256x1_d0)
    broadcasts_S256x1_S256x128

namespace PairIn

variable (p : PairIn F)

/-- The attention's weights of the pair. -/
def weight : FVec F S256x128 .f32 :=
  exp (subf (addf (matmul dot_S256x128_S128x128_S256x128_1_1_0_0_n_n none
        (stacked (shapeCast S128x128 p.q shapeCasts_S1x128x128_S128x128))
        (shapeCast S128x128 p.k shapeCasts_S1x128x128_S128x128 : FVec F S128x128 .bf16) (constant S256x128 .f32 0x00000000#32))
      (extractStridedSlice S256x128 ![0, 128]
        (shapeCast S256x256 (shapeCast S2x128x256 p.b shapeCasts_S1x2x128x256_S2x128x256 : FVec F S2x128x256 .f32)
          shapeCasts_S2x128x256_S256x256)
        slices_S256x256_o0_128_S256x128))
    (spread p.la p.lb))

/-- The gradient of the pair's scores. -/
def score : FVec F S256x128 .f32 :=
  mulf p.weight (subf (matmul dot_S256x128_S128x128_S256x128_1_1_0_0_n_n none
      (stacked (shapeCast S128x128 p.g shapeCasts_S128x128_S128x128))
      (shapeCast S128x128 p.v shapeCasts_S1x128x128_S128x128 : FVec F S128x128 .bf16) (constant S256x128 .f32 0x00000000#32))
    (spread p.ca p.cb))

/-- What is stored of the queries' gradient. -/
def dq : FVec F S1x128x128 .bf16 :=
  shapeCast S1x128x128
    (truncf .bf16
      (mulf (broadcast S128x128 (Scalar.ofBits .f32 0x3E000000#32))
        (select (cmpi .slt (iota .tc S128x128 32 [1] iota_S128x128_d1_w32) (broadcast S128x128 64#32))
          (extractStridedSlice S128x128 ![0, 0]
            (matmul dot_S256x128_S128x128_S256x128_1_0_0_1_n_n none (truncf .bf16 p.score bitsLt_bf16_f32)
              (shapeCast S128x128 p.k shapeCasts_S1x128x128_S128x128 : FVec F S128x128 .bf16)
              (constant S256x128 .f32 0x00000000#32))
            slices_S256x128_o0_0_S128x128)
          (extractStridedSlice S128x128 ![128, 0]
            (matmul dot_S256x128_S128x128_S256x128_1_0_0_1_n_n none (truncf .bf16 p.score bitsLt_bf16_f32)
              (shapeCast S128x128 p.k shapeCasts_S1x128x128_S128x128 : FVec F S128x128 .bf16)
              (constant S256x128 .f32 0x00000000#32))
            slices_S256x128_o128_0_S128x128)))
      bitsLt_bf16_f32)
    shapeCasts_S128x128_S1x128x128

/-- What is stored of the keys' gradient, over what was found. -/
def dk (f : FVec F S128x128 .f32) : FVec F S128x128 .f32 :=
  shapeCast S128x128
    (addf f (matmul dot_S256x128_S256x128_S128x128_0_0_1_1_n_n none (truncf .bf16 p.score bitsLt_bf16_f32)
      (stacked (shapeCast S128x128 p.q shapeCasts_S1x128x128_S128x128)) (constant S128x128 .f32 0x00000000#32)))
    shapeCasts_S128x128_S128x128

/-- What is stored of the values' gradient, over what was found. -/
def dv (f : FVec F S128x128 .f32) : FVec F S128x128 .f32 :=
  shapeCast S128x128
    (addf f (matmul dot_S256x128_S256x128_S128x128_0_0_1_1_n_n none (truncf .bf16 p.weight bitsLt_bf16_f32)
      (stacked (shapeCast S128x128 p.g shapeCasts_S128x128_S128x128)) (constant S128x128 .f32 0x00000000#32)))
    shapeCasts_S128x128_S128x128

/-- What is stored of the bias's gradient, over what was found. -/
def db (f : FVec F S2x128x128 .f32) : FVec F S2x128x128 .f32 :=
  addf (shapeCast S2x128x128 f shapeCasts_S2x128x128_S2x128x128)
    (shapeCast S2x128x128 p.score shapeCasts_S256x128_S2x128x128)

end PairIn

section Trip

variable (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S2048x512 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x8x128x256 .f32) (harg7 : arg7.IsWhole) (arg8 : Memref sig .tc .vmem S3x2048x512 .bf16) (harg8 : arg8.IsWhole) (arg9 : Memref sig .tc .vmem S8x128x256 .f32) (harg9 : arg9.IsWhole) (arg10 : Memref sig .tc .vmem S2048x512 .f32) (harg10 : arg10.IsWhole) (arg11 : Memref sig .tc .vmem S2048x512 .f32) (harg11 : arg11.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty)

/-- The loads of pair 0 in a trip. -/
def pair0 : PairIn F where
  q := arg1.view.readAt (Elt F) (Rect.unit (s := S1x2048x512) (k0_off1 k) S1x128x128.size (k0_off1_inb k)).toLoadRect X_arg1
  k := arg2.view.readAt (Elt F) (Rect.unit (s := S1x2048x512) (k0_off1 k) S1x128x128.size (k0_off1_inb k)).toLoadRect X_arg2
  v := arg3.view.readAt (Elt F) (Rect.unit (s := S1x2048x512) (k0_off1 k) S1x128x128.size (k0_off1_inb k)).toLoadRect X_arg3
  g := arg4.view.readAt (Elt F) (Rect.unit (s := S2048x512) (k0_off3 k) S128x128.size (k0_off3_inb k)).toLoadRect X_arg4
  b := arg7.view.readAt (Elt F) (Rect.unit (s := S1x8x128x256) ![0, 0, 0, 0] S1x2x128x256.size inb_S1x8x128x256_S1x2x128x256_0_0_0_0).toLoadRect X_arg7
  la := extractStridedSlice S128x1 ![0, 0] (shapeCast S128x128 (arg5.view.readAt (Elt F) (Rect.unit (s := S2048x128) (k0_off2 k) S128x128.size (k0_off2_inb k)).toLoadRect X_arg5) shapeCasts_S128x128_S128x128 : FVec F S128x128 .f32) slices_S128x128_o0_0_S128x1
  lb := extractStridedSlice S128x1 ![0, 1] (shapeCast S128x128 (arg5.view.readAt (Elt F) (Rect.unit (s := S2048x128) (k0_off2 k) S128x128.size (k0_off2_inb k)).toLoadRect X_arg5) shapeCasts_S128x128_S128x128 : FVec F S128x128 .f32) slices_S128x128_o0_1_S128x1
  ca := extractStridedSlice S128x1 ![0, 0] (shapeCast S128x128 (arg6.view.readAt (Elt F) (Rect.unit (s := S2048x128) (k0_off2 k) S128x128.size (k0_off2_inb k)).toLoadRect X_arg6) shapeCasts_S128x128_S128x128 : FVec F S128x128 .f32) slices_S128x128_o0_0_S128x1
  cb := extractStridedSlice S128x1 ![0, 1] (shapeCast S128x128 (arg6.view.readAt (Elt F) (Rect.unit (s := S2048x128) (k0_off2 k) S128x128.size (k0_off2_inb k)).toLoadRect X_arg6) shapeCasts_S128x128_S128x128 : FVec F S128x128 .f32) slices_S128x128_o0_1_S128x1

/-- The loads of pair 1 in a trip. -/
def pair1 : PairIn F where
  q := arg1.view.readAt (Elt F) (Rect.unit (s := S1x2048x512) (k0_off5 k) S1x128x128.size (k0_off5_inb k)).toLoadRect X_arg1
  k := arg2.view.readAt (Elt F) (Rect.unit (s := S1x2048x512) (k0_off5 k) S1x128x128.size (k0_off5_inb k)).toLoadRect X_arg2
  v := arg3.view.readAt (Elt F) (Rect.unit (s := S1x2048x512) (k0_off5 k) S1x128x128.size (k0_off5_inb k)).toLoadRect X_arg3
  g := arg4.view.readAt (Elt F) (Rect.unit (s := S2048x512) (k0_off6 k) S128x128.size (k0_off6_inb k)).toLoadRect X_arg4
  b := arg7.view.readAt (Elt F) (Rect.unit (s := S1x8x128x256) ![0, 2, 0, 0] S1x2x128x256.size inb_S1x8x128x256_S1x2x128x256_0_2_0_0).toLoadRect X_arg7
  la := extractStridedSlice S128x1 ![0, 2] (shapeCast S128x128 (arg5.view.readAt (Elt F) (Rect.unit (s := S2048x128) (k0_off2 k) S128x128.size (k0_off2_inb k)).toLoadRect X_arg5) shapeCasts_S128x128_S128x128 : FVec F S128x128 .f32) slices_S128x128_o0_2_S128x1
  lb := extractStridedSlice S128x1 ![0, 3] (shapeCast S128x128 (arg5.view.readAt (Elt F) (Rect.unit (s := S2048x128) (k0_off2 k) S128x128.size (k0_off2_inb k)).toLoadRect X_arg5) shapeCasts_S128x128_S128x128 : FVec F S128x128 .f32) slices_S128x128_o0_3_S128x1
  ca := extractStridedSlice S128x1 ![0, 2] (shapeCast S128x128 (arg6.view.readAt (Elt F) (Rect.unit (s := S2048x128) (k0_off2 k) S128x128.size (k0_off2_inb k)).toLoadRect X_arg6) shapeCasts_S128x128_S128x128 : FVec F S128x128 .f32) slices_S128x128_o0_2_S128x1
  cb := extractStridedSlice S128x1 ![0, 3] (shapeCast S128x128 (arg6.view.readAt (Elt F) (Rect.unit (s := S2048x128) (k0_off2 k) S128x128.size (k0_off2_inb k)).toLoadRect X_arg6) shapeCasts_S128x128_S128x128 : FVec F S128x128 .f32) slices_S128x128_o0_3_S128x1

/-- The loads of pair 2 in a trip. -/
def pair2 : PairIn F where
  q := arg1.view.readAt (Elt F) (Rect.unit (s := S1x2048x512) (k0_off8 k) S1x128x128.size (k0_off8_inb k)).toLoadRect X_arg1
  k := arg2.view.readAt (Elt F) (Rect.unit (s := S1x2048x512) (k0_off8 k) S1x128x128.size (k0_off8_inb k)).toLoadRect X_arg2
  v := arg3.view.readAt (Elt F) (Rect.unit (s := S1x2048x512) (k0_off8 k) S1x128x128.size (k0_off8_inb k)).toLoadRect X_arg3
  g := arg4.view.readAt (Elt F) (Rect.unit (s := S2048x512) (k0_off9 k) S128x128.size (k0_off9_inb k)).toLoadRect X_arg4
  b := arg7.view.readAt (Elt F) (Rect.unit (s := S1x8x128x256) ![0, 4, 0, 0] S1x2x128x256.size inb_S1x8x128x256_S1x2x128x256_0_4_0_0).toLoadRect X_arg7
  la := extractStridedSlice S128x1 ![0, 4] (shapeCast S128x128 (arg5.view.readAt (Elt F) (Rect.unit (s := S2048x128) (k0_off2 k) S128x128.size (k0_off2_inb k)).toLoadRect X_arg5) shapeCasts_S128x128_S128x128 : FVec F S128x128 .f32) slices_S128x128_o0_4_S128x1
  lb := extractStridedSlice S128x1 ![0, 5] (shapeCast S128x128 (arg5.view.readAt (Elt F) (Rect.unit (s := S2048x128) (k0_off2 k) S128x128.size (k0_off2_inb k)).toLoadRect X_arg5) shapeCasts_S128x128_S128x128 : FVec F S128x128 .f32) slices_S128x128_o0_5_S128x1
  ca := extractStridedSlice S128x1 ![0, 4] (shapeCast S128x128 (arg6.view.readAt (Elt F) (Rect.unit (s := S2048x128) (k0_off2 k) S128x128.size (k0_off2_inb k)).toLoadRect X_arg6) shapeCasts_S128x128_S128x128 : FVec F S128x128 .f32) slices_S128x128_o0_4_S128x1
  cb := extractStridedSlice S128x1 ![0, 5] (shapeCast S128x128 (arg6.view.readAt (Elt F) (Rect.unit (s := S2048x128) (k0_off2 k) S128x128.size (k0_off2_inb k)).toLoadRect X_arg6) shapeCasts_S128x128_S128x128 : FVec F S128x128 .f32) slices_S128x128_o0_5_S128x1

/-- The loads of pair 3 in a trip. -/
def pair3 : PairIn F where
  q := arg1.view.readAt (Elt F) (Rect.unit (s := S1x2048x512) (k0_off11 k) S1x128x128.size (k0_off11_inb k)).toLoadRect X_arg1
  k := arg2.view.readAt (Elt F) (Rect.unit (s := S1x2048x512) (k0_off11 k) S1x128x128.size (k0_off11_inb k)).toLoadRect X_arg2
  v := arg3.view.readAt (Elt F) (Rect.unit (s := S1x2048x512) (k0_off11 k) S1x128x128.size (k0_off11_inb k)).toLoadRect X_arg3
  g := arg4.view.readAt (Elt F) (Rect.unit (s := S2048x512) (k0_off12 k) S128x128.size (k0_off12_inb k)).toLoadRect X_arg4
  b := arg7.view.readAt (Elt F) (Rect.unit (s := S1x8x128x256) ![0, 6, 0, 0] S1x2x128x256.size inb_S1x8x128x256_S1x2x128x256_0_6_0_0).toLoadRect X_arg7
  la := extractStridedSlice S128x1 ![0, 6] (shapeCast S128x128 (arg5.view.readAt (Elt F) (Rect.unit (s := S2048x128) (k0_off2 k) S128x128.size (k0_off2_inb k)).toLoadRect X_arg5) shapeCasts_S128x128_S128x128 : FVec F S128x128 .f32) slices_S128x128_o0_6_S128x1
  lb := extractStridedSlice S128x1 ![0, 7] (shapeCast S128x128 (arg5.view.readAt (Elt F) (Rect.unit (s := S2048x128) (k0_off2 k) S128x128.size (k0_off2_inb k)).toLoadRect X_arg5) shapeCasts_S128x128_S128x128 : FVec F S128x128 .f32) slices_S128x128_o0_7_S128x1
  ca := extractStridedSlice S128x1 ![0, 6] (shapeCast S128x128 (arg6.view.readAt (Elt F) (Rect.unit (s := S2048x128) (k0_off2 k) S128x128.size (k0_off2_inb k)).toLoadRect X_arg6) shapeCasts_S128x128_S128x128 : FVec F S128x128 .f32) slices_S128x128_o0_6_S128x1
  cb := extractStridedSlice S128x1 ![0, 7] (shapeCast S128x128 (arg6.view.readAt (Elt F) (Rect.unit (s := S2048x128) (k0_off2 k) S128x128.size (k0_off2_inb k)).toLoadRect X_arg6) shapeCasts_S128x128_S128x128 : FVec F S128x128 .f32) slices_S128x128_o0_7_S128x1

/-- The stores of a trip into the buffer of the result, the latest first. -/
theorem trip8 :
    (tripL_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 k f_arg8 f_arg9 f_arg10 f_arg11).1 = [
        ⟨Rect.unit (s := S3x2048x512) (k0_off13 k) S1x128x128.size (k0_off13_inb k), (pair3 arg1 arg2 arg3 arg4 arg5 arg6 arg7 X_arg1 X_arg2 X_arg3 X_arg4 X_arg5 X_arg6 X_arg7 k).dq⟩,
        ⟨Rect.unit (s := S3x2048x512) (k0_off10 k) S1x128x128.size (k0_off10_inb k), (pair2 arg1 arg2 arg3 arg4 arg5 arg6 arg7 X_arg1 X_arg2 X_arg3 X_arg4 X_arg5 X_arg6 X_arg7 k).dq⟩,
        ⟨Rect.unit (s := S3x2048x512) (k0_off7 k) S1x128x128.size (k0_off7_inb k), (pair1 arg1 arg2 arg3 arg4 arg5 arg6 arg7 X_arg1 X_arg2 X_arg3 X_arg4 X_arg5 X_arg6 X_arg7 k).dq⟩,
        ⟨Rect.unit (s := S3x2048x512) (k0_off4 k) S1x128x128.size (k0_off4_inb k), (pair0 arg1 arg2 arg3 arg4 arg5 arg6 arg7 X_arg1 X_arg2 X_arg3 X_arg4 X_arg5 X_arg6 X_arg7 k).dq⟩] := by
  unfold tripL_k0_t1 trip_k0_t1
  rfl

/-- The stores of a trip into the buffer of the bias's gradient, the latest first. -/
theorem trip9 :
    (tripL_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 k f_arg8 f_arg9 f_arg10 f_arg11).2.1 = [
        ⟨Rect.unit (s := S8x128x256) ![6, 0, 128] S2x128x128.size inb_S8x128x256_S2x128x128_6_0_128, (pair3 arg1 arg2 arg3 arg4 arg5 arg6 arg7 X_arg1 X_arg2 X_arg3 X_arg4 X_arg5 X_arg6 X_arg7 k).db (arg9.view.readAt (Elt F) (Rect.unit (s := S8x128x256) ![6, 0, 128] S2x128x128.size inb_S8x128x256_S2x128x128_6_0_128).toLoadRect f_arg9)⟩,
        ⟨Rect.unit (s := S8x128x256) ![4, 0, 128] S2x128x128.size inb_S8x128x256_S2x128x128_4_0_128, (pair2 arg1 arg2 arg3 arg4 arg5 arg6 arg7 X_arg1 X_arg2 X_arg3 X_arg4 X_arg5 X_arg6 X_arg7 k).db (arg9.view.readAt (Elt F) (Rect.unit (s := S8x128x256) ![4, 0, 128] S2x128x128.size inb_S8x128x256_S2x128x128_4_0_128).toLoadRect f_arg9)⟩,
        ⟨Rect.unit (s := S8x128x256) ![2, 0, 128] S2x128x128.size inb_S8x128x256_S2x128x128_2_0_128, (pair1 arg1 arg2 arg3 arg4 arg5 arg6 arg7 X_arg1 X_arg2 X_arg3 X_arg4 X_arg5 X_arg6 X_arg7 k).db (arg9.view.readAt (Elt F) (Rect.unit (s := S8x128x256) ![2, 0, 128] S2x128x128.size inb_S8x128x256_S2x128x128_2_0_128).toLoadRect f_arg9)⟩,
        ⟨Rect.unit (s := S8x128x256) ![0, 0, 128] S2x128x128.size inb_S8x128x256_S2x128x128_0_0_128, (pair0 arg1 arg2 arg3 arg4 arg5 arg6 arg7 X_arg1 X_arg2 X_arg3 X_arg4 X_arg5 X_arg6 X_arg7 k).db (arg9.view.readAt (Elt F) (Rect.unit (s := S8x128x256) ![0, 0, 128] S2x128x128.size inb_S8x128x256_S2x128x128_0_0_128).toLoadRect f_arg9)⟩] := by
  unfold tripL_k0_t1 trip_k0_t1
  rfl

/-- The stores of a trip into the buffer of the keys' gradient, the latest first. -/
theorem trip10 :
    (tripL_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 k f_arg8 f_arg9 f_arg10 f_arg11).2.2.1 = [
        ⟨Rect.unit (s := S2048x512) (k0_off12 k) S128x128.size (k0_off12_inb k), (pair3 arg1 arg2 arg3 arg4 arg5 arg6 arg7 X_arg1 X_arg2 X_arg3 X_arg4 X_arg5 X_arg6 X_arg7 k).dk (arg10.view.readAt (Elt F) (Rect.unit (s := S2048x512) (k0_off12 k) S128x128.size (k0_off12_inb k)).toLoadRect f_arg10)⟩,
        ⟨Rect.unit (s := S2048x512) (k0_off9 k) S128x128.size (k0_off9_inb k), (pair2 arg1 arg2 arg3 arg4 arg5 arg6 arg7 X_arg1 X_arg2 X_arg3 X_arg4 X_arg5 X_arg6 X_arg7 k).dk (arg10.view.readAt (Elt F) (Rect.unit (s := S2048x512) (k0_off9 k) S128x128.size (k0_off9_inb k)).toLoadRect f_arg10)⟩,
        ⟨Rect.unit (s := S2048x512) (k0_off6 k) S128x128.size (k0_off6_inb k), (pair1 arg1 arg2 arg3 arg4 arg5 arg6 arg7 X_arg1 X_arg2 X_arg3 X_arg4 X_arg5 X_arg6 X_arg7 k).dk (arg10.view.readAt (Elt F) (Rect.unit (s := S2048x512) (k0_off6 k) S128x128.size (k0_off6_inb k)).toLoadRect f_arg10)⟩,
        ⟨Rect.unit (s := S2048x512) (k0_off3 k) S128x128.size (k0_off3_inb k), (pair0 arg1 arg2 arg3 arg4 arg5 arg6 arg7 X_arg1 X_arg2 X_arg3 X_arg4 X_arg5 X_arg6 X_arg7 k).dk (arg10.view.readAt (Elt F) (Rect.unit (s := S2048x512) (k0_off3 k) S128x128.size (k0_off3_inb k)).toLoadRect f_arg10)⟩] := by
  unfold tripL_k0_t1 trip_k0_t1
  rfl

/-- The stores of a trip into the buffer of the values' gradient, the latest first. -/
theorem trip11 :
    (tripL_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg3 X_arg4 X_arg5 X_arg6 X_arg7 k f_arg8 f_arg9 f_arg10 f_arg11).2.2.2 = [
        ⟨Rect.unit (s := S2048x512) (k0_off12 k) S128x128.size (k0_off12_inb k), (pair3 arg1 arg2 arg3 arg4 arg5 arg6 arg7 X_arg1 X_arg2 X_arg3 X_arg4 X_arg5 X_arg6 X_arg7 k).dv (arg11.view.readAt (Elt F) (Rect.unit (s := S2048x512) (k0_off12 k) S128x128.size (k0_off12_inb k)).toLoadRect f_arg11)⟩,
        ⟨Rect.unit (s := S2048x512) (k0_off9 k) S128x128.size (k0_off9_inb k), (pair2 arg1 arg2 arg3 arg4 arg5 arg6 arg7 X_arg1 X_arg2 X_arg3 X_arg4 X_arg5 X_arg6 X_arg7 k).dv (arg11.view.readAt (Elt F) (Rect.unit (s := S2048x512) (k0_off9 k) S128x128.size (k0_off9_inb k)).toLoadRect f_arg11)⟩,
        ⟨Rect.unit (s := S2048x512) (k0_off6 k) S128x128.size (k0_off6_inb k), (pair1 arg1 arg2 arg3 arg4 arg5 arg6 arg7 X_arg1 X_arg2 X_arg3 X_arg4 X_arg5 X_arg6 X_arg7 k).dv (arg11.view.readAt (Elt F) (Rect.unit (s := S2048x512) (k0_off6 k) S128x128.size (k0_off6_inb k)).toLoadRect f_arg11)⟩,
        ⟨Rect.unit (s := S2048x512) (k0_off3 k) S128x128.size (k0_off3_inb k), (pair0 arg1 arg2 arg3 arg4 arg5 arg6 arg7 X_arg1 X_arg2 X_arg3 X_arg4 X_arg5 X_arg6 X_arg7 k).dv (arg11.view.readAt (Elt F) (Rect.unit (s := S2048x512) (k0_off3 k) S128x128.size (k0_off3_inb k)).toLoadRect f_arg11)⟩] := by
  unfold tripL_k0_t1 trip_k0_t1
  rfl

end Trip

end Cert.KernelIdeal.Own

end
-- ==== Proof.PairIdeal.lean ====
module

public import proofs.«01_k».proof.Proof.Pair
public import Idealize.ShloMosaic.Lib.Pointwise

@[expose] public section

/-
  The values a pair's stores put down, over the extended reals, at an index: the lanes of a pair are two heads of 64, and
  each product over 128 lanes keeps the 64 of the row's own head.
-/

set_option maxRecDepth 16384

noncomputable section

namespace Cert.KernelIdeal.Own

open Idealize.ShloMosaic Cert.KernelIdeal Cert.KernelIdeal.Gen

/-- Row `i` of head `h` of a pair, in the stack of the two heads' rows. -/
def srow (h : Fin 2) (i : Fin 128) : Fin 256 := ⟨128 * h.val + i.val, by omega⟩

/-- Entry `e` of head `h` of a pair, in the pair's lanes. -/
def lane (h : Fin 2) (e : Fin 64) : Fin 128 := ⟨64 * h.val + e.val, by omega⟩

/-- Column `j` of the right half of 256 columns. -/
def right (j : Fin 128) : Fin 256 := ⟨128 + j.val, by omega⟩

/-- A sum over the 128 lanes is a sum over the two heads. -/
theorem sum_lanes (f : Fin 128 → EReal) : ∑ l, f l = ∑ h : Fin 2, ∑ e : Fin 64, f (lane h e) := by
  rw [← Fintype.sum_prod_type' (f := fun h e => f (lane h e))]
  exact (Fintype.sum_equiv (finProdFinEquiv (m := 2) (n := 64)) _ _ fun x =>
    congrArg f (Fin.ext (by simp [lane, finProdFinEquiv]; omega))).symm

/-- A sum over the stack's rows is a sum over the two heads. -/
theorem sum_srows (f : Fin 256 → EReal) : ∑ r, f r = ∑ h : Fin 2, ∑ i : Fin 128, f (srow h i) := by
  rw [← Fintype.sum_prod_type' (f := fun h i => f (srow h i))]
  exact (Fintype.sum_equiv (finProdFinEquiv (m := 2) (n := 128)) _ _ fun x =>
    congrArg f (Fin.ext (by simp [srow, finProdFinEquiv]; omega))).symm

theorem lane_slt (h : Fin 2) (e : Fin 64) :
    IntOp.cmpi CmpIPredicate.slt (BitVec.ofNat 32 (lane h e).val) 64#32 = if h = 0 then 1#1 else 0#1 := by
  revert h e; decide +kernel

theorem lane_sge (h : Fin 2) (e : Fin 64) :
    IntOp.cmpi CmpIPredicate.sge (BitVec.ofNat 32 (lane h e).val) 64#32 = if h = 0 then 0#1 else 1#1 := by
  revert h e; decide +kernel

theorem stacked_apply (z : FVec Ideal S128x128 .bf16) (h h' : Fin 2) (i : Fin 128) (e : Fin 64) :
    stacked z (ix2 (srow h i) (lane h' e)) = if h' = h then z (ix2 i (lane h' e)) else 0 := by
  pointwise [stacked]
  rw [lane_slt, lane_sge]
  match h, h' with
  | 0, 0 => simp [srow, Scalar.select]
  | 0, 1 => simp [srow, Scalar.select]
  | 1, 0 => simp [srow, Scalar.select]
  | 1, 1 => simp [srow, Scalar.select]

theorem spread_apply (a b : FVec Ideal S128x1 .f32) (h : Fin 2) (i l : Fin 128) :
    spread a b (ix2 (srow h i) l) = if h = 0 then a (ix2 i 0) else b (ix2 i 0) := by
  pointwise [spread]
  match h with
  | 0 => simp [srow]
  | 1 => simp [srow]

/-- Of a product of stacked lanes with plain ones the row's own head remains. -/
theorem sum_stacked (z : FVec Ideal S128x128 .bf16) (h : Fin 2) (i : Fin 128) (f : Fin 128 → EReal) :
    ∑ l, stacked z (ix2 (srow h i) l) * f l = ∑ e, z (ix2 i (lane h e)) * f (lane h e) := by
  rw [sum_lanes, Finset.sum_eq_single h]
  · exact Finset.sum_congr rfl fun e _ => by rw [stacked_apply, if_pos rfl]
  · intro h' _ hn
    exact Finset.sum_eq_zero fun e _ => by rw [stacked_apply, if_neg hn, zero_mul]
  · intro hn; exact absurd (Finset.mem_univ _) hn

/-- Of a product over the stack's rows the lane's own head remains. -/
theorem sum_rows_stacked (z : FVec Ideal S128x128 .bf16) (h : Fin 2) (e : Fin 64) (f : Fin 256 → EReal) :
    ∑ r, f r * stacked z (ix2 r (lane h e)) = ∑ i, f (srow h i) * z (ix2 i (lane h e)) := by
  rw [sum_srows, Finset.sum_eq_single h]
  · exact Finset.sum_congr rfl fun i _ => by rw [stacked_apply, if_pos rfl]
  · intro h' _ hn
    exact Finset.sum_eq_zero fun e _ => by rw [stacked_apply, if_neg (Ne.symm hn), mul_zero]
  · intro hn; exact absurd (Finset.mem_univ _) hn

/-- Of the two heads' rows a lane takes those of its own head. -/
theorem select_lane (h : Fin 2) (e : Fin 64) (i : Fin 128) (f : Fin 256 → EReal)
    (h0 : i.val < 256) (h1 : 128 + i.val < 256) :
    Scalar.select (IntOp.cmpi CmpIPredicate.slt (BitVec.ofNat 32 (lane h e).val) 64#32) (f ⟨i.val, h0⟩) (f ⟨128 + i.val, h1⟩)
      = f (srow h i) := by
  rw [lane_slt]
  match h with
  | 0 => simp [srow, Scalar.select]
  | 1 => simp [srow, Scalar.select]

namespace PairIn

variable (p : PairIn Ideal)

/-- The column of log-sums of head `h`. -/
def lse (h : Fin 2) (i : Fin 128) : EReal := if h = 0 then p.la (ix2 i 0) else p.lb (ix2 i 0)

/-- The column of row constants of head `h`. -/
def con (h : Fin 2) (i : Fin 128) : EReal := if h = 0 then p.ca (ix2 i 0) else p.cb (ix2 i 0)

theorem weight_apply (h : Fin 2) (i j : Fin 128) :
    p.weight (ix2 (srow h i) j)
      = Ideal.exp (∑ e, p.q (ix3 0 i (lane h e)) * p.k (ix3 0 j (lane h e)) + p.b (ix4 0 h i (right j)) - p.lse h i) := by
  pointwise [weight]
  rw [sum_stacked, spread_apply]
  pointwise
  have e1 : (⟨(srow h i).val / 128, by have := (srow h i).isLt; omega⟩ : Fin 2) = h :=
    Fin.ext (by simp only [srow]; omega)
  have e2 : (⟨(srow h i).val % 128, by omega⟩ : Fin 128) = i := Fin.ext (by simp only [srow]; omega)
  rw [e1, e2]
  rfl

theorem score_apply (h : Fin 2) (i j : Fin 128) :
    p.score (ix2 (srow h i) j)
      = p.weight (ix2 (srow h i) j) * (∑ e, p.g (ix2 i (lane h e)) * p.v (ix3 0 j (lane h e)) - p.con h i) := by
  pointwise [score]
  rw [sum_stacked, spread_apply]
  rfl

theorem dq_apply (h : Fin 2) (e : Fin 64) (i : Fin 128) :
    p.dq (ix3 0 i (lane h e))
      = Ideal.ofBits .f32 0x3E000000#32 * ∑ j, p.score (ix2 (srow h i) j) * p.k (ix3 0 j (lane h e)) := by
  pointwise [dq]
  rw [select_lane h e i (fun r => ∑ j, p.score (ix2 r j) * p.k (ix3 0 j (lane h e)))]

theorem dk_apply (f : FVec Ideal S128x128 .f32) (h : Fin 2) (e : Fin 64) (j : Fin 128) :
    p.dk f (ix2 j (lane h e))
      = f (ix2 j (lane h e)) + ∑ i, p.score (ix2 (srow h i) j) * p.q (ix3 0 i (lane h e)) := by
  pointwise [dk]
  rw [sum_rows_stacked _ h e (fun r => p.score (ix2 r j))]
  pointwise

theorem dv_apply (f : FVec Ideal S128x128 .f32) (h : Fin 2) (e : Fin 64) (j : Fin 128) :
    p.dv f (ix2 j (lane h e))
      = f (ix2 j (lane h e)) + ∑ i, p.weight (ix2 (srow h i) j) * p.g (ix2 i (lane h e)) := by
  pointwise [dv]
  rw [sum_rows_stacked _ h e (fun r => p.weight (ix2 r j))]

theorem db_apply (f : FVec Ideal S2x128x128 .f32) (h : Fin 2) (i j : Fin 128) :
    p.db f (ix3 h i j) = f (ix3 h i j) + p.score (ix2 (srow h i) j) := by
  pointwise [db]
  rw [show (⟨h.val * 128 + i.val, by omega⟩ : Fin 256) = srow h i from Fin.ext (by simp only [srow]; omega)]

end PairIn

end Cert.KernelIdeal.Own

end
-- ==== Proof.Loop.lean ====
module

public import proofs.«01_k».proof.Proof.PairIdeal
public import Idealize.ShloMosaic.Lib.Pipeline.FrameBody
public import Idealize.ShloMosaic.Lib.Pipeline.Frame
public import Idealize.ShloMosaic.Lib.WritesUnit
public import Idealize.ShloMosaic.Lib.Pipeline.Value

@[expose] public section

/-
  What the buffers hold after the loop's first trips, over the extended reals: a trip treats one residue class, a block
  of 128 rows, and puts down that block of the three gradients and adds its part of the bias's gradient.
-/

set_option maxRecDepth 16384

noncomputable section

namespace Cert.KernelIdeal.Own

open Idealize.ShloMosaic Idealize.ShloMosaic.TcCoe Idealize.SL Idealize.SL.Sem Cert.KernelIdeal Cert.KernelIdeal.Gen

/-- Row `i` of block `u`. -/
def row (u : Fin 16) (i : Fin 128) : Fin 2048 := ⟨128 * u.val + i.val, by omega⟩

/-- Lane `l` of pair `n`. -/
def col (n : Fin 4) (l : Fin 128) : Fin 512 := ⟨128 * n.val + l.val, by omega⟩

/-- Head `h` of pair `n`. -/
def head (n : Fin 4) (h : Fin 2) : Fin 8 := ⟨2 * n.val + h.val, by omega⟩

/-- The lane in which the column of head `h` of pair `n` lies. -/
def hcol (n : Fin 4) (h : Fin 2) : Fin 128 := ⟨2 * n.val + h.val, by omega⟩

/-- Column `j` of the left half of 256 columns. -/
def left (j : Fin 128) : Fin 256 := ⟨j.val, by omega⟩

/-- What the kernel finds in its seven inputs. -/
structure Blocks where
  x0 : Vec Ideal S1x2048x512 .bf16
  x1 : Vec Ideal S1x2048x512 .bf16
  x2 : Vec Ideal S1x2048x512 .bf16
  x3 : Vec Ideal S2048x512 .bf16
  x4 : Vec Ideal S2048x128 .f32
  x5 : Vec Ideal S2048x128 .f32
  x6 : Vec Ideal S1x8x128x256 .f32

namespace Blocks

variable (X : Blocks)

/-- The attention's weight of key `j` for query `i` of block `u` and head `h` of pair `n`. -/
def weight (u : Fin 16) (n : Fin 4) (h : Fin 2) (i j : Fin 128) : EReal :=
  Ideal.exp (∑ e, X.x0 (ix3 0 (row u i) (col n (lane h e))) * X.x1 (ix3 0 (row u j) (col n (lane h e)))
    + X.x6 (ix4 0 (head n h) i (right j)) - X.x4 (ix2 (row u i) (hcol n h)))

/-- The gradient of that score. -/
def score (u : Fin 16) (n : Fin 4) (h : Fin 2) (i j : Fin 128) : EReal :=
  X.weight u n h i j * (∑ e, X.x3 (ix2 (row u i) (col n (lane h e))) * X.x2 (ix3 0 (row u j) (col n (lane h e)))
    - X.x5 (ix2 (row u i) (hcol n h)))

/-- The queries' gradient. -/
def dq (u : Fin 16) (n : Fin 4) (h : Fin 2) (i : Fin 128) (e : Fin 64) : EReal :=
  Ideal.ofBits .f32 0x3E000000#32 * ∑ j, X.score u n h i j * X.x1 (ix3 0 (row u j) (col n (lane h e)))

/-- The keys' gradient. -/
def dk (u : Fin 16) (n : Fin 4) (h : Fin 2) (j : Fin 128) (e : Fin 64) : EReal :=
  ∑ i, X.score u n h i j * X.x0 (ix3 0 (row u i) (col n (lane h e)))

/-- The values' gradient. -/
def dv (u : Fin 16) (n : Fin 4) (h : Fin 2) (j : Fin 128) (e : Fin 64) : EReal :=
  ∑ i, X.weight u n h i j * X.x3 (ix2 (row u i) (col n (lane h e)))

/-- A pair's loads are those of block `u` and pair `n`. -/
structure Reads (p : PairIn Ideal) (u : Fin 16) (n : Fin 4) : Prop where
  q : ∀ i l, p.q (ix3 0 i l) = X.x0 (ix3 0 (row u i) (col n l))
  k : ∀ i l, p.k (ix3 0 i l) = X.x1 (ix3 0 (row u i) (col n l))
  v : ∀ i l, p.v (ix3 0 i l) = X.x2 (ix3 0 (row u i) (col n l))
  g : ∀ i l, p.g (ix2 i l) = X.x3 (ix2 (row u i) (col n l))
  b : ∀ h i l, p.b (ix4 0 h i l) = X.x6 (ix4 0 (head n h) i l)
  lse : ∀ h i, p.lse h i = X.x4 (ix2 (row u i) (hcol n h))
  con : ∀ h i, p.con h i = X.x5 (ix2 (row u i) (hcol n h))

namespace Reads

variable {X} {p : PairIn Ideal} {u : Fin 16} {n : Fin 4} (H : X.Reads p u n)
include H

theorem weight (h : Fin 2) (i j : Fin 128) : p.weight (ix2 (srow h i) j) = X.weight u n h i j := by
  rw [p.weight_apply, H.b, H.lse]
  simp only [H.q, H.k]
  rfl

theorem score (h : Fin 2) (i j : Fin 128) : p.score (ix2 (srow h i) j) = X.score u n h i j := by
  rw [p.score_apply, H.weight, H.con]
  simp only [H.g, H.v]
  rfl

theorem dq (h : Fin 2) (e : Fin 64) (i : Fin 128) : p.dq (ix3 0 i (lane h e)) = X.dq u n h i e := by
  rw [p.dq_apply]
  simp only [H.score, H.k]
  rfl

theorem dk (f : FVec Ideal S128x128 .f32) (h : Fin 2) (e : Fin 64) (j : Fin 128) :
    p.dk f (ix2 j (lane h e)) = f (ix2 j (lane h e)) + X.dk u n h j e := by
  rw [p.dk_apply]
  simp only [H.score, H.q]
  rfl

theorem dv (f : FVec Ideal S128x128 .f32) (h : Fin 2) (e : Fin 64) (j : Fin 128) :
    p.dv f (ix2 j (lane h e)) = f (ix2 j (lane h e)) + X.dv u n h j e := by
  rw [p.dv_apply]
  simp only [H.weight, H.g]
  rfl

theorem db (f : FVec Ideal S2x128x128 .f32) (h : Fin 2) (i j : Fin 128) :
    p.db f (ix3 h i j) = f (ix3 h i j) + X.score u n h i j := by
  rw [p.db_apply, H.score]

end Reads

end Blocks

/-- The loop has sixteen trips. -/
theorem trips_eq : k0_t1_loop.trips = 16 := by decide +kernel

/-- The block a trip treats. -/
def block (k : Fin k0_t1_loop.trips) : Fin 16 := ⟨k.val, trips_eq ▸ k.isLt⟩

/-- A statement of the three axes. -/
theorem forall_fin_three {P : Fin 3 → Prop} (h : P 0 ∧ P 1 ∧ P 2) : ∀ a, P a
  | 0 => h.1
  | 1 => h.2.1
  | 2 => h.2.2

section Stores

variable {κ : Kind} {sp : Space} {e : EltTy} (k : Fin k0_t1_loop.trips) (u : Fin 16) (n : Fin 4)

/-- A trip's four stores of columns: rows of another block stay, rows of the trip's block hold the pair's store. -/
theorem read_cols (v : View sig κ sp S2048x512 e) (f : v.ty.Contents (Elt Ideal)) (w : Fin 4 → Vec Ideal S128x128 e)
    (j l : Fin 128) :
    v.read (Elt Ideal) (v.writes (Elt Ideal) f [
        ⟨Rect.unit (s := S2048x512) (k0_off12 k) S128x128.size (k0_off12_inb k), w 3⟩,
        ⟨Rect.unit (s := S2048x512) (k0_off9 k) S128x128.size (k0_off9_inb k), w 2⟩,
        ⟨Rect.unit (s := S2048x512) (k0_off6 k) S128x128.size (k0_off6_inb k), w 1⟩,
        ⟨Rect.unit (s := S2048x512) (k0_off3 k) S128x128.size (k0_off3_inb k), w 0⟩]) (ix2 (row u j) (col n l))
      = if u = block k then w n (ix2 j l) else v.read (Elt Ideal) f (ix2 (row u j) (col n l)) := by
  split
  · next h =>
    subst h
    match n with
    | 0 =>
      rw [View.read_writes_cons_unit_of_not_mem (heq := k0_off12_eq k) (a := (1 : Fin 2))
        (ha := .inl (by simp [ix2, col] <;> omega))]
      rw [View.read_writes_cons_unit_of_not_mem (heq := k0_off9_eq k) (a := (1 : Fin 2))
        (ha := .inl (by simp [ix2, col] <;> omega))]
      rw [View.read_writes_cons_unit_of_not_mem (heq := k0_off6_eq k) (a := (1 : Fin 2))
        (ha := .inl (by simp [ix2, col] <;> omega))]
      refine View.read_writes_cons_unit_of_mem (s := S2048x512) (off := k0_off3 k) (size := S128x128.size) _ _ _ _ _ _ (ix2 j l) (k0_off3_eq k) ?_
      exact Fin.forall_fin_two.mpr ⟨by simp [ix2, row, block], by simp [ix2, col]⟩

    | 1 =>
      rw [View.read_writes_cons_unit_of_not_mem (heq := k0_off12_eq k) (a := (1 : Fin 2))
        (ha := .inl (by simp [ix2, col] <;> omega))]
      rw [View.read_writes_cons_unit_of_not_mem (heq := k0_off9_eq k) (a := (1 : Fin 2))
        (ha := .inl (by simp [ix2, col] <;> omega))]
      refine View.read_writes_cons_unit_of_mem (s := S2048x512) (off := k0_off6 k) (size := S128x128.size) _ _ _ _ _ _ (ix2 j l) (k0_off6_eq k) ?_
      exact Fin.forall_fin_two.mpr ⟨by simp [ix2, row, block], by simp [ix2, col]⟩

    | 2 =>
      rw [View.read_writes_cons_unit_of_not_mem (heq := k0_off12_eq k) (a := (1 : Fin 2))
        (ha := .inl (by simp [ix2, col] <;> omega))]
      refine View.read_writes_cons_unit_of_mem (s := S2048x512) (off := k0_off9 k) (size := S128x128.size) _ _ _ _ _ _ (ix2 j l) (k0_off9_eq k) ?_
      exact Fin.forall_fin_two.mpr ⟨by simp [ix2, row, block], by simp [ix2, col]⟩

    | 3 =>
      refine View.read_writes_cons_unit_of_mem (s := S2048x512) (off := k0_off12 k) (size := S128x128.size) _ _ _ _ _ _ (ix2 j l) (k0_off12_eq k) ?_
      exact Fin.forall_fin_two.mpr ⟨by simp [ix2, row, block], by simp [ix2, col]⟩
  · next h =>
    have hk : u.val ≠ k.val := fun c => h (Fin.ext c)
    rw [View.read_writes_cons_unit_of_not_mem (heq := k0_off12_eq k) (a := (0 : Fin 2))
      (ha := by simp [ix2, row]; omega)]
    rw [View.read_writes_cons_unit_of_not_mem (heq := k0_off9_eq k) (a := (0 : Fin 2))
      (ha := by simp [ix2, row]; omega)]
    rw [View.read_writes_cons_unit_of_not_mem (heq := k0_off6_eq k) (a := (0 : Fin 2))
      (ha := by simp [ix2, row]; omega)]
    rw [View.read_writes_cons_unit_of_not_mem (heq := k0_off3_eq k) (a := (0 : Fin 2))
      (ha := by simp [ix2, row]; omega)]
    rfl

/-- The same of the four stores of the queries' gradient. -/
theorem read_cols₃ (v : View sig κ sp S3x2048x512 e) (f : v.ty.Contents (Elt Ideal)) (w : Fin 4 → Vec Ideal S1x128x128 e)
    (j l : Fin 128) :
    v.read (Elt Ideal) (v.writes (Elt Ideal) f [
        ⟨Rect.unit (s := S3x2048x512) (k0_off13 k) S1x128x128.size (k0_off13_inb k), w 3⟩,
        ⟨Rect.unit (s := S3x2048x512) (k0_off10 k) S1x128x128.size (k0_off10_inb k), w 2⟩,
        ⟨Rect.unit (s := S3x2048x512) (k0_off7 k) S1x128x128.size (k0_off7_inb k), w 1⟩,
        ⟨Rect.unit (s := S3x2048x512) (k0_off4 k) S1x128x128.size (k0_off4_inb k), w 0⟩]) (ix3 0 (row u j) (col n l))
      = if u = block k then w n (ix3 0 j l) else v.read (Elt Ideal) f (ix3 0 (row u j) (col n l)) := by
  split
  · next h =>
    subst h
    match n with
    | 0 =>
      rw [View.read_writes_cons_unit_of_not_mem (heq := k0_off13_eq k) (a := (2 : Fin 3))
        (ha := .inl (by simp [ix3, col] <;> omega))]
      rw [View.read_writes_cons_unit_of_not_mem (heq := k0_off10_eq k) (a := (2 : Fin 3))
        (ha := .inl (by simp [ix3, col] <;> omega))]
      rw [View.read_writes_cons_unit_of_not_mem (heq := k0_off7_eq k) (a := (2 : Fin 3))
        (ha := .inl (by simp [ix3, col] <;> omega))]
      refine View.read_writes_cons_unit_of_mem (s := S3x2048x512) (off := k0_off4 k) (size := S1x128x128.size) _ _ _ _ _ _ (ix3 0 j l) (k0_off4_eq k) ?_
      exact forall_fin_three ⟨by simp [ix3], by simp [ix3, row, block], by simp [ix3, col]⟩

    | 1 =>
      rw [View.read_writes_cons_unit_of_not_mem (heq := k0_off13_eq k) (a := (2 : Fin 3))
        (ha := .inl (by simp [ix3, col] <;> omega))]
      rw [View.read_writes_cons_unit_of_not_mem (heq := k0_off10_eq k) (a := (2 : Fin 3))
        (ha := .inl (by simp [ix3, col] <;> omega))]
      refine View.read_writes_cons_unit_of_mem (s := S3x2048x512) (off := k0_off7 k) (size := S1x128x128.size) _ _ _ _ _ _ (ix3 0 j l) (k0_off7_eq k) ?_
      exact forall_fin_three ⟨by simp [ix3], by simp [ix3, row, block], by simp [ix3, col]⟩

    | 2 =>
      rw [View.read_writes_cons_unit_of_not_mem (heq := k0_off13_eq k) (a := (2 : Fin 3))
        (ha := .inl (by simp [ix3, col] <;> omega))]
      refine View.read_writes_cons_unit_of_mem (s := S3x2048x512) (off := k0_off10 k) (size := S1x128x128.size) _ _ _ _ _ _ (ix3 0 j l) (k0_off10_eq k) ?_
      exact forall_fin_three ⟨by simp [ix3], by simp [ix3, row, block], by simp [ix3, col]⟩

    | 3 =>
      refine View.read_writes_cons_unit_of_mem (s := S3x2048x512) (off := k0_off13 k) (size := S1x128x128.size) _ _ _ _ _ _ (ix3 0 j l) (k0_off13_eq k) ?_
      exact forall_fin_three ⟨by simp [ix3], by simp [ix3, row, block], by simp [ix3, col]⟩
  · next h =>
    have hk : u.val ≠ k.val := fun c => h (Fin.ext c)
    rw [View.read_writes_cons_unit_of_not_mem (heq := k0_off13_eq k) (a := (1 : Fin 3))
      (ha := by simp [ix3, row]; omega)]
    rw [View.read_writes_cons_unit_of_not_mem (heq := k0_off10_eq k) (a := (1 : Fin 3))
      (ha := by simp [ix3, row]; omega)]
    rw [View.read_writes_cons_unit_of_not_mem (heq := k0_off7_eq k) (a := (1 : Fin 3))
      (ha := by simp [ix3, row]; omega)]
    rw [View.read_writes_cons_unit_of_not_mem (heq := k0_off4_eq k) (a := (1 : Fin 3))
      (ha := by simp [ix3, row]; omega)]
    rfl

/-- The four stores of the bias's gradient: the right half holds the pair's store. -/
theorem read_heads (v : View sig κ sp S8x128x256 e) (f : v.ty.Contents (Elt Ideal)) (w : Fin 4 → Vec Ideal S2x128x128 e)
    (h : Fin 2) (i j : Fin 128) :
    v.read (Elt Ideal) (v.writes (Elt Ideal) f [
        ⟨Rect.unit (s := S8x128x256) ![6, 0, 128] S2x128x128.size inb_S8x128x256_S2x128x128_6_0_128, w 3⟩,
        ⟨Rect.unit (s := S8x128x256) ![4, 0, 128] S2x128x128.size inb_S8x128x256_S2x128x128_4_0_128, w 2⟩,
        ⟨Rect.unit (s := S8x128x256) ![2, 0, 128] S2x128x128.size inb_S8x128x256_S2x128x128_2_0_128, w 1⟩,
        ⟨Rect.unit (s := S8x128x256) ![0, 0, 128] S2x128x128.size inb_S8x128x256_S2x128x128_0_0_128, w 0⟩]) (ix3 (head n h) i (right j))
      = w n (ix3 h i j) := by
  match n with
  | 0 =>
    refine (View.read_writes_cons_unit_of_not_mem _ _ _ _ _ _ rfl (0 : Fin 3) (.inl ?_)).trans ?_
    · simp [ix3, head] <;> omega
    refine (View.read_writes_cons_unit_of_not_mem _ _ _ _ _ _ rfl (0 : Fin 3) (.inl ?_)).trans ?_
    · simp [ix3, head] <;> omega
    refine (View.read_writes_cons_unit_of_not_mem _ _ _ _ _ _ rfl (0 : Fin 3) (.inl ?_)).trans ?_
    · simp [ix3, head] <;> omega
    refine View.read_writes_cons_unit_of_mem (s := S8x128x256) (off := ![0, 0, 128]) (size := S2x128x128.size) _ _ _ _ _ _ (ix3 h i j) rfl ?_
    exact forall_fin_three ⟨by simp [ix3, head], by simp [ix3], by simp [ix3, right]⟩

  | 1 =>
    refine (View.read_writes_cons_unit_of_not_mem _ _ _ _ _ _ rfl (0 : Fin 3) (.inl ?_)).trans ?_
    · simp [ix3, head] <;> omega
    refine (View.read_writes_cons_unit_of_not_mem _ _ _ _ _ _ rfl (0 : Fin 3) (.inl ?_)).trans ?_
    · simp [ix3, head] <;> omega
    refine View.read_writes_cons_unit_of_mem (s := S8x128x256) (off := ![2, 0, 128]) (size := S2x128x128.size) _ _ _ _ _ _ (ix3 h i j) rfl ?_
    exact forall_fin_three ⟨by simp [ix3, head], by simp [ix3], by simp [ix3, right]⟩

  | 2 =>
    refine (View.read_writes_cons_unit_of_not_mem _ _ _ _ _ _ rfl (0 : Fin 3) (.inl ?_)).trans ?_
    · simp [ix3, head] <;> omega
    refine View.read_writes_cons_unit_of_mem (s := S8x128x256) (off := ![4, 0, 128]) (size := S2x128x128.size) _ _ _ _ _ _ (ix3 h i j) rfl ?_
    exact forall_fin_three ⟨by simp [ix3, head], by simp [ix3], by simp [ix3, right]⟩

  | 3 =>
    refine View.read_writes_cons_unit_of_mem (s := S8x128x256) (off := ![6, 0, 128]) (size := S2x128x128.size) _ _ _ _ _ _ (ix3 h i j) rfl ?_
    exact forall_fin_three ⟨by simp [ix3, head], by simp [ix3], by simp [ix3, right]⟩

/-- … and the left half keeps what it held. -/
theorem read_heads_left (v : View sig κ sp S8x128x256 e) (f : v.ty.Contents (Elt Ideal)) (w : Fin 4 → Vec Ideal S2x128x128 e)
    (h : Fin 8) (i j : Fin 128) :
    v.read (Elt Ideal) (v.writes (Elt Ideal) f [
        ⟨Rect.unit (s := S8x128x256) ![6, 0, 128] S2x128x128.size inb_S8x128x256_S2x128x128_6_0_128, w 3⟩,
        ⟨Rect.unit (s := S8x128x256) ![4, 0, 128] S2x128x128.size inb_S8x128x256_S2x128x128_4_0_128, w 2⟩,
        ⟨Rect.unit (s := S8x128x256) ![2, 0, 128] S2x128x128.size inb_S8x128x256_S2x128x128_2_0_128, w 1⟩,
        ⟨Rect.unit (s := S8x128x256) ![0, 0, 128] S2x128x128.size inb_S8x128x256_S2x128x128_0_0_128, w 0⟩]) (ix3 h i (left j))
      = v.read (Elt Ideal) f (ix3 h i (left j)) := by
  iterate 4
    refine (View.read_writes_cons_unit_of_not_mem _ _ _ _ _ _ rfl (2 : Fin 3) (.inl ?_)).trans ?_
    · simp [ix3, left]
  rfl

end Stores

section Loads

/-- A load of a block's pair of lanes, the leading axis a unit. -/
theorem load₃ (m : Memref sig .tc .vmem S1x2048x512 .bf16) (hm : m.IsWhole) (x : Vec Ideal S1x2048x512 .bf16) (u : Fin 16)
    (n : Fin 4) {off : Fin 3 → ℕ} (ho : off = ![0, 128 * u.val, 128 * n.val])
    (inb : ∀ a : Fin 3, off a + S1x128x128.size a ≤ S1x2048x512.size a) (i l : Fin 128) :
    m.view.readAt (Elt Ideal) (Rect.unit (s := S1x2048x512) off S1x128x128.size inb).toLoadRect (hm.unread x) (ix3 0 i l)
      = x (ix3 0 (row u i) (col n l)) := by
  subst ho
  rw [View.readAt_eq_ld, Memref.IsWhole.read_unread]
  pointwise [row, col]

/-- The same in two axes. -/
theorem load₂ (m : Memref sig .tc .vmem S2048x512 .bf16) (hm : m.IsWhole) (x : Vec Ideal S2048x512 .bf16) (u : Fin 16)
    (n : Fin 4) {off : Fin 2 → ℕ} (ho : off = ![128 * u.val, 128 * n.val])
    (inb : ∀ a : Fin 2, off a + S128x128.size a ≤ S2048x512.size a) (i l : Fin 128) :
    m.view.readAt (Elt Ideal) (Rect.unit (s := S2048x512) off S128x128.size inb).toLoadRect (hm.unread x) (ix2 i l)
      = x (ix2 (row u i) (col n l)) := by
  subst ho
  rw [View.readAt_eq_ld, Memref.IsWhole.read_unread]
  pointwise [row, col]

/-- A load of a pair's masked bias. -/
theorem load₄ (m : Memref sig .tc .vmem S1x8x128x256 .f32) (hm : m.IsWhole) (x : Vec Ideal S1x8x128x256 .f32)
    (n : Fin 4) (inb : ∀ a : Fin 4, (![0, 2 * n.val, 0, 0] : Fin 4 → ℕ) a + S1x2x128x256.size a ≤ S1x8x128x256.size a)
    (h : Fin 2) (i : Fin 128) (l : Fin 256) :
    m.view.readAt (Elt Ideal) (Rect.unit (s := S1x8x128x256) ![0, 2 * n.val, 0, 0] S1x2x128x256.size inb).toLoadRect
        (hm.unread x) (ix4 0 h i l)
      = x (ix4 0 (head n h) i l) := by
  rw [View.readAt_eq_ld, Memref.IsWhole.read_unread]
  pointwise [head]

/-- The two columns of a pair out of a load of a block's lanes. -/
theorem column (m : Memref sig .tc .vmem S2048x128 .f32) (hm : m.IsWhole) (x : Vec Ideal S2048x128 .f32) (u : Fin 16)
    (n : Fin 4) {off : Fin 2 → ℕ} (ho : off = ![128 * u.val, 0])
    (inb : ∀ a : Fin 2, off a + S128x128.size a ≤ S2048x128.size a)
    (s0 : S128x128.Slices ![0, 2 * n.val] S128x1) (s1 : S128x128.Slices ![0, 2 * n.val + 1] S128x1) (h : Fin 2) (i : Fin 128) :
    (if h = 0 then
        extractStridedSlice S128x1 ![0, 2 * n.val] (shapeCast S128x128 (m.view.readAt (Elt Ideal) (Rect.unit (s := S2048x128) off S128x128.size inb).toLoadRect (hm.unread x)) shapeCasts_S128x128_S128x128 : FVec Ideal S128x128 .f32) s0 (ix2 i 0)
      else
        extractStridedSlice S128x1 ![0, 2 * n.val + 1] (shapeCast S128x128 (m.view.readAt (Elt Ideal) (Rect.unit (s := S2048x128) off S128x128.size inb).toLoadRect (hm.unread x)) shapeCasts_S128x128_S128x128 : FVec Ideal S128x128 .f32) s1 (ix2 i 0))
      = x (ix2 (row u i) (hcol n h)) := by
  subst ho
  rw [View.readAt_eq_ld, Memref.IsWhole.read_unread]
  match h with
  | 0 => rw [if_pos rfl]; pointwise [row, hcol]
  | 1 => rw [if_neg (by decide)]; pointwise [row, hcol]

end Loads

section Loop

variable (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S2048x512 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x8x128x256 .f32) (harg7 : arg7.IsWhole) (arg8 : Memref sig .tc .vmem S3x2048x512 .bf16) (harg8 : arg8.IsWhole) (arg9 : Memref sig .tc .vmem S8x128x256 .f32) (harg9 : arg9.IsWhole) (arg10 : Memref sig .tc .vmem S2048x512 .f32) (harg10 : arg10.IsWhole) (arg11 : Memref sig .tc .vmem S2048x512 .f32) (harg11 : arg11.IsWhole)
  (X : Blocks) (G8 : BufTy.Contents (Elt Ideal) arg8.view.ty) (G9 : BufTy.Contents (Elt Ideal) arg9.view.ty)
  (G10 : BufTy.Contents (Elt Ideal) arg10.view.ty) (G11 : BufTy.Contents (Elt Ideal) arg11.view.ty)

/-- The four pairs' loads in a trip. -/
def pairs (k : Fin k0_t1_loop.trips) : Fin 4 → PairIn Ideal := ![
  pair0 arg1 arg2 arg3 arg4 arg5 arg6 arg7 (harg1.unread X.x0) (harg2.unread X.x1) (harg3.unread X.x2) (harg4.unread X.x3) (harg5.unread X.x4) (harg6.unread X.x5) (harg7.unread X.x6) k,
  pair1 arg1 arg2 arg3 arg4 arg5 arg6 arg7 (harg1.unread X.x0) (harg2.unread X.x1) (harg3.unread X.x2) (harg4.unread X.x3) (harg5.unread X.x4) (harg6.unread X.x5) (harg7.unread X.x6) k,
  pair2 arg1 arg2 arg3 arg4 arg5 arg6 arg7 (harg1.unread X.x0) (harg2.unread X.x1) (harg3.unread X.x2) (harg4.unread X.x3) (harg5.unread X.x4) (harg6.unread X.x5) (harg7.unread X.x6) k,
  pair3 arg1 arg2 arg3 arg4 arg5 arg6 arg7 (harg1.unread X.x0) (harg2.unread X.x1) (harg3.unread X.x2) (harg4.unread X.x3) (harg5.unread X.x4) (harg6.unread X.x5) (harg7.unread X.x6) k]

theorem reads0 (k : Fin k0_t1_loop.trips) : X.Reads (pair0 arg1 arg2 arg3 arg4 arg5 arg6 arg7 (harg1.unread X.x0) (harg2.unread X.x1) (harg3.unread X.x2) (harg4.unread X.x3) (harg5.unread X.x4) (harg6.unread X.x5) (harg7.unread X.x6) k) (block k) 0 where
  q := load₃ arg1 harg1 X.x0 (block k) 0 (k0_off1_eq k) (k0_off1_inb k)
  k := load₃ arg2 harg2 X.x1 (block k) 0 (k0_off1_eq k) (k0_off1_inb k)
  v := load₃ arg3 harg3 X.x2 (block k) 0 (k0_off1_eq k) (k0_off1_inb k)
  g := load₂ arg4 harg4 X.x3 (block k) 0 (k0_off3_eq k) (k0_off3_inb k)
  b := load₄ arg7 harg7 X.x6 0 _
  lse := column arg5 harg5 X.x4 (block k) 0 (k0_off2_eq k) (k0_off2_inb k) slices_S128x128_o0_0_S128x1 slices_S128x128_o0_1_S128x1
  con := column arg6 harg6 X.x5 (block k) 0 (k0_off2_eq k) (k0_off2_inb k) slices_S128x128_o0_0_S128x1 slices_S128x128_o0_1_S128x1

theorem reads1 (k : Fin k0_t1_loop.trips) : X.Reads (pair1 arg1 arg2 arg3 arg4 arg5 arg6 arg7 (harg1.unread X.x0) (harg2.unread X.x1) (harg3.unread X.x2) (harg4.unread X.x3) (harg5.unread X.x4) (harg6.unread X.x5) (harg7.unread X.x6) k) (block k) 1 where
  q := load₃ arg1 harg1 X.x0 (block k) 1 (k0_off5_eq k) (k0_off5_inb k)
  k := load₃ arg2 harg2 X.x1 (block k) 1 (k0_off5_eq k) (k0_off5_inb k)
  v := load₃ arg3 harg3 X.x2 (block k) 1 (k0_off5_eq k) (k0_off5_inb k)
  g := load₂ arg4 harg4 X.x3 (block k) 1 (k0_off6_eq k) (k0_off6_inb k)
  b := load₄ arg7 harg7 X.x6 1 _
  lse := column arg5 harg5 X.x4 (block k) 1 (k0_off2_eq k) (k0_off2_inb k) slices_S128x128_o0_2_S128x1 slices_S128x128_o0_3_S128x1
  con := column arg6 harg6 X.x5 (block k) 1 (k0_off2_eq k) (k0_off2_inb k) slices_S128x128_o0_2_S128x1 slices_S128x128_o0_3_S128x1

theorem reads2 (k : Fin k0_t1_loop.trips) : X.Reads (pair2 arg1 arg2 arg3 arg4 arg5 arg6 arg7 (harg1.unread X.x0) (harg2.unread X.x1) (harg3.unread X.x2) (harg4.unread X.x3) (harg5.unread X.x4) (harg6.unread X.x5) (harg7.unread X.x6) k) (block k) 2 where
  q := load₃ arg1 harg1 X.x0 (block k) 2 (k0_off8_eq k) (k0_off8_inb k)
  k := load₃ arg2 harg2 X.x1 (block k) 2 (k0_off8_eq k) (k0_off8_inb k)
  v := load₃ arg3 harg3 X.x2 (block k) 2 (k0_off8_eq k) (k0_off8_inb k)
  g := load₂ arg4 harg4 X.x3 (block k) 2 (k0_off9_eq k) (k0_off9_inb k)
  b := load₄ arg7 harg7 X.x6 2 _
  lse := column arg5 harg5 X.x4 (block k) 2 (k0_off2_eq k) (k0_off2_inb k) slices_S128x128_o0_4_S128x1 slices_S128x128_o0_5_S128x1
  con := column arg6 harg6 X.x5 (block k) 2 (k0_off2_eq k) (k0_off2_inb k) slices_S128x128_o0_4_S128x1 slices_S128x128_o0_5_S128x1

theorem reads3 (k : Fin k0_t1_loop.trips) : X.Reads (pair3 arg1 arg2 arg3 arg4 arg5 arg6 arg7 (harg1.unread X.x0) (harg2.unread X.x1) (harg3.unread X.x2) (harg4.unread X.x3) (harg5.unread X.x4) (harg6.unread X.x5) (harg7.unread X.x6) k) (block k) 3 where
  q := load₃ arg1 harg1 X.x0 (block k) 3 (k0_off11_eq k) (k0_off11_inb k)
  k := load₃ arg2 harg2 X.x1 (block k) 3 (k0_off11_eq k) (k0_off11_inb k)
  v := load₃ arg3 harg3 X.x2 (block k) 3 (k0_off11_eq k) (k0_off11_inb k)
  g := load₂ arg4 harg4 X.x3 (block k) 3 (k0_off12_eq k) (k0_off12_inb k)
  b := load₄ arg7 harg7 X.x6 3 _
  lse := column arg5 harg5 X.x4 (block k) 3 (k0_off2_eq k) (k0_off2_inb k) slices_S128x128_o0_6_S128x1 slices_S128x128_o0_7_S128x1
  con := column arg6 harg6 X.x5 (block k) 3 (k0_off2_eq k) (k0_off2_inb k) slices_S128x128_o0_6_S128x1 slices_S128x128_o0_7_S128x1

theorem pairs_reads (k : Fin k0_t1_loop.trips) (n : Fin 4) :
    X.Reads (pairs arg1 harg1 arg2 harg2 arg3 harg3 arg4 harg4 arg5 harg5 arg6 harg6 arg7 harg7 X k n) (block k) n := by
  match n with
  | 0 => exact reads0 arg1 harg1 arg2 harg2 arg3 harg3 arg4 harg4 arg5 harg5 arg6 harg6 arg7 harg7 X k
  | 1 => exact reads1 arg1 harg1 arg2 harg2 arg3 harg3 arg4 harg4 arg5 harg5 arg6 harg6 arg7 harg7 X k
  | 2 => exact reads2 arg1 harg1 arg2 harg2 arg3 harg3 arg4 harg4 arg5 harg5 arg6 harg6 arg7 harg7 X k
  | 3 => exact reads3 arg1 harg1 arg2 harg2 arg3 harg3 arg4 harg4 arg5 harg5 arg6 harg6 arg7 harg7 X k

end Loop

end Cert.KernelIdeal.Own

end
-- ==== Proof.LoopVals.lean ====
module

public import proofs.«01_k».proof.Proof.Loop

@[expose] public section

/-
  What the buffers hold after the loop's first trips, by induction over the trips.
-/

set_option maxRecDepth 16384

noncomputable section

namespace Cert.KernelIdeal.Own

open Idealize.ShloMosaic Idealize.ShloMosaic.TcCoe Idealize.SL Idealize.SL.Sem Cert.KernelIdeal Cert.KernelIdeal.Gen

variable (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S2048x512 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x8x128x256 .f32) (harg7 : arg7.IsWhole) (arg8 : Memref sig .tc .vmem S3x2048x512 .bf16) (harg8 : arg8.IsWhole) (arg9 : Memref sig .tc .vmem S8x128x256 .f32) (harg9 : arg9.IsWhole) (arg10 : Memref sig .tc .vmem S2048x512 .f32) (harg10 : arg10.IsWhole) (arg11 : Memref sig .tc .vmem S2048x512 .f32) (harg11 : arg11.IsWhole)
  (X : Blocks) (G8 : BufTy.Contents (Elt Ideal) arg8.view.ty) (G9 : BufTy.Contents (Elt Ideal) arg9.view.ty)
  (G10 : BufTy.Contents (Elt Ideal) arg10.view.ty) (G11 : BufTy.Contents (Elt Ideal) arg11.view.ty)

/-- The stores of the first trips, buffer by buffer. -/
abbrev stores (m : ℕ) := pb_k0_t1 (F := Ideal) Variants.none c none i arg1 harg1 arg2 harg2 arg3 harg3 arg4 harg4 arg5 harg5 arg6 harg6 arg7 harg7 arg8 harg8 arg9 harg9 arg10 harg10 arg11 harg11 (harg1.unread X.x0) (harg2.unread X.x1) (harg3.unread X.x2) (harg4.unread X.x3) (harg5.unread X.x4) (harg6.unread X.x5) (harg7.unread X.x6) G8 G9 G10 G11 m

theorem stores_zero : stores c i arg1 harg1 arg2 harg2 arg3 harg3 arg4 harg4 arg5 harg5 arg6 harg6 arg7 harg7 arg8 harg8 arg9 harg9 arg10 harg10 arg11 harg11 X G8 G9 G10 G11 0 = ([], [], [], []) := by
  unfold stores; rw [pb_k0_t1.eq_1]

section Found

variable (k : Fin k0_t1_loop.trips)

/-- What a trip finds, before its stores, in a pair's block of columns. -/
def foundCols (m : Memref sig .tc .vmem S2048x512 .f32) (f : BufTy.Contents (Elt Ideal) m.view.ty) : Fin 4 → Vec Ideal S128x128 .f32 := ![
  m.view.readAt (Elt Ideal) (Rect.unit (s := S2048x512) (k0_off3 k) S128x128.size (k0_off3_inb k)).toLoadRect f,
  m.view.readAt (Elt Ideal) (Rect.unit (s := S2048x512) (k0_off6 k) S128x128.size (k0_off6_inb k)).toLoadRect f,
  m.view.readAt (Elt Ideal) (Rect.unit (s := S2048x512) (k0_off9 k) S128x128.size (k0_off9_inb k)).toLoadRect f,
  m.view.readAt (Elt Ideal) (Rect.unit (s := S2048x512) (k0_off12 k) S128x128.size (k0_off12_inb k)).toLoadRect f]

theorem foundCols_apply (m : Memref sig .tc .vmem S2048x512 .f32) (f : BufTy.Contents (Elt Ideal) m.view.ty) (n : Fin 4) (j l : Fin 128) :
    foundCols k m f n (ix2 j l) = m.view.read (Elt Ideal) f (ix2 (row (block k) j) (col n l)) := by
  have key : ∀ (off : Fin 2 → ℕ) (inb : ∀ a : Fin 2, off a + S128x128.size a ≤ S2048x512.size a),
      off = ![128 * (block k).val, 128 * n.val] →
      m.view.readAt (Elt Ideal) (Rect.unit (s := S2048x512) off S128x128.size inb).toLoadRect f (ix2 j l)
        = m.view.read (Elt Ideal) f (ix2 (row (block k) j) (col n l)) := by
    intro off inb ho
    subst ho
    rw [View.readAt_eq_ld]
    pointwise [row, col]
  match n with
  | 0 => exact key _ _ (k0_off3_eq k)
  | 1 => exact key _ _ (k0_off6_eq k)
  | 2 => exact key _ _ (k0_off9_eq k)
  | 3 => exact key _ _ (k0_off12_eq k)

/-- What a trip finds, before its stores, in a pair's heads of the bias's gradient. -/
def foundHeads (m : Memref sig .tc .vmem S8x128x256 .f32) (f : BufTy.Contents (Elt Ideal) m.view.ty) : Fin 4 → Vec Ideal S2x128x128 .f32 := ![
  m.view.readAt (Elt Ideal) (Rect.unit (s := S8x128x256) ![0, 0, 128] S2x128x128.size inb_S8x128x256_S2x128x128_0_0_128).toLoadRect f,
  m.view.readAt (Elt Ideal) (Rect.unit (s := S8x128x256) ![2, 0, 128] S2x128x128.size inb_S8x128x256_S2x128x128_2_0_128).toLoadRect f,
  m.view.readAt (Elt Ideal) (Rect.unit (s := S8x128x256) ![4, 0, 128] S2x128x128.size inb_S8x128x256_S2x128x128_4_0_128).toLoadRect f,
  m.view.readAt (Elt Ideal) (Rect.unit (s := S8x128x256) ![6, 0, 128] S2x128x128.size inb_S8x128x256_S2x128x128_6_0_128).toLoadRect f]

theorem foundHeads_apply (m : Memref sig .tc .vmem S8x128x256 .f32) (f : BufTy.Contents (Elt Ideal) m.view.ty) (n : Fin 4) (h : Fin 2) (j l : Fin 128) :
    foundHeads m f n (ix3 h j l) = m.view.read (Elt Ideal) f (ix3 (head n h) j (right l)) := by
  have key : ∀ (inb : ∀ a : Fin 3, (![2 * n.val, 0, 128] : Fin 3 → ℕ) a + S2x128x128.size a ≤ S8x128x256.size a),
      m.view.readAt (Elt Ideal) (Rect.unit (s := S8x128x256) ![2 * n.val, 0, 128] S2x128x128.size inb).toLoadRect f (ix3 h j l)
        = m.view.read (Elt Ideal) f (ix3 (head n h) j (right l)) := by
    intro inb
    rw [View.readAt_eq_ld]
    pointwise [head, right]
  match n with
  | 0 => exact key _
  | 1 => exact key _
  | 2 => exact key _
  | 3 => exact key _

end Found

/-- The queries' gradient after `m` trips: a block is written by its own trip. -/
theorem queries_after (m : ℕ) (hm : m ≤ 16) (u : Fin 16) (n : Fin 4) (h : Fin 2) (j : Fin 128) (e : Fin 64) :
    arg8.view.read (Elt Ideal) (arg8.view.writes (Elt Ideal) G8 (stores c i arg1 harg1 arg2 harg2 arg3 harg3 arg4 harg4 arg5 harg5 arg6 harg6 arg7 harg7 arg8 harg8 arg9 harg9 arg10 harg10 arg11 harg11 X G8 G9 G10 G11 m).1) (ix3 0 (row u j) (col n (lane h e)))
      = if u.val < m then X.dq u n h j e else arg8.view.read (Elt Ideal) G8 (ix3 0 (row u j) (col n (lane h e))) := by
  induction m with
  | zero => rw [stores_zero, if_neg (Nat.not_lt_zero _)]; rfl
  | succ m ih =>
    have hk : m < k0_t1_loop.trips := by rw [trips_eq]; omega
    have ih := ih (by omega)
    unfold stores at ih ⊢
    rw [pb_k0_t1_succ (k := ⟨m, hk⟩)]
    change arg8.view.read (Elt Ideal) (arg8.view.writes (Elt Ideal) G8 (_ ++ _)) _ = _
    rw [View.writes_append, trip8]
    generalize arg8.view.writes (Elt Ideal) G8 _ = f at ih ⊢
    refine (read_cols₃ ⟨m, hk⟩ u n arg8.view f (fun n => (pairs arg1 harg1 arg2 harg2 arg3 harg3 arg4 harg4 arg5 harg5 arg6 harg6 arg7 harg7 X ⟨m, hk⟩ n).dq) j (lane h e)).trans ?_
    by_cases hu : u = block ⟨m, hk⟩
    · subst hu
      rw [if_pos rfl, if_pos (show (block ⟨m, hk⟩).val < m + 1 from Nat.lt_succ_self m)]
      rw [(pairs_reads arg1 harg1 arg2 harg2 arg3 harg3 arg4 harg4 arg5 harg5 arg6 harg6 arg7 harg7 X ⟨m, hk⟩ n).dq]
    · have hne : u.val ≠ m := fun c => hu (Fin.ext c)
      rw [if_neg hu, ih]
      by_cases hlt : u.val < m
      · rw [if_pos hlt, if_pos (by omega)]
      · rw [if_neg hlt, if_neg (by omega)]

/-- The keys' gradient after `m` trips. -/
theorem keys_after (m : ℕ) (hm : m ≤ 16) (u : Fin 16) (n : Fin 4) (h : Fin 2) (j : Fin 128) (e : Fin 64) :
    arg10.view.read (Elt Ideal) (arg10.view.writes (Elt Ideal) G10 (stores c i arg1 harg1 arg2 harg2 arg3 harg3 arg4 harg4 arg5 harg5 arg6 harg6 arg7 harg7 arg8 harg8 arg9 harg9 arg10 harg10 arg11 harg11 X G8 G9 G10 G11 m).2.2.1) (ix2 (row u j) (col n (lane h e)))
      = if u.val < m then arg10.view.read (Elt Ideal) G10 (ix2 (row u j) (col n (lane h e))) + X.dk u n h j e else arg10.view.read (Elt Ideal) G10 (ix2 (row u j) (col n (lane h e))) := by
  induction m with
  | zero => rw [stores_zero, if_neg (Nat.not_lt_zero _)]; rfl
  | succ m ih =>
    have hk : m < k0_t1_loop.trips := by rw [trips_eq]; omega
    have ih := ih (by omega)
    unfold stores at ih ⊢
    rw [pb_k0_t1_succ (k := ⟨m, hk⟩)]
    change arg10.view.read (Elt Ideal) (arg10.view.writes (Elt Ideal) G10 (_ ++ _)) _ = _
    rw [View.writes_append, trip10]
    generalize arg10.view.writes (Elt Ideal) G10 _ = f at ih ⊢
    refine (read_cols ⟨m, hk⟩ u n arg10.view f (fun n => (pairs arg1 harg1 arg2 harg2 arg3 harg3 arg4 harg4 arg5 harg5 arg6 harg6 arg7 harg7 X ⟨m, hk⟩ n).dk (foundCols ⟨m, hk⟩ arg10 f n)) j (lane h e)).trans ?_
    by_cases hu : u = block ⟨m, hk⟩
    · subst hu
      rw [if_pos rfl, if_pos (show (block ⟨m, hk⟩).val < m + 1 from Nat.lt_succ_self m)]
      rw [(pairs_reads arg1 harg1 arg2 harg2 arg3 harg3 arg4 harg4 arg5 harg5 arg6 harg6 arg7 harg7 X ⟨m, hk⟩ n).dk, foundCols_apply, ih, if_neg (show ¬ (block ⟨m, hk⟩).val < m from Nat.lt_irrefl m)]
    · have hne : u.val ≠ m := fun c => hu (Fin.ext c)
      rw [if_neg hu, ih]
      by_cases hlt : u.val < m
      · rw [if_pos hlt, if_pos (by omega)]
      · rw [if_neg hlt, if_neg (by omega)]

/-- The values' gradient after `m` trips. -/
theorem values_after (m : ℕ) (hm : m ≤ 16) (u : Fin 16) (n : Fin 4) (h : Fin 2) (j : Fin 128) (e : Fin 64) :
    arg11.view.read (Elt Ideal) (arg11.view.writes (Elt Ideal) G11 (stores c i arg1 harg1 arg2 harg2 arg3 harg3 arg4 harg4 arg5 harg5 arg6 harg6 arg7 harg7 arg8 harg8 arg9 harg9 arg10 harg10 arg11 harg11 X G8 G9 G10 G11 m).2.2.2) (ix2 (row u j) (col n (lane h e)))
      = if u.val < m then arg11.view.read (Elt Ideal) G11 (ix2 (row u j) (col n (lane h e))) + X.dv u n h j e else arg11.view.read (Elt Ideal) G11 (ix2 (row u j) (col n (lane h e))) := by
  induction m with
  | zero => rw [stores_zero, if_neg (Nat.not_lt_zero _)]; rfl
  | succ m ih =>
    have hk : m < k0_t1_loop.trips := by rw [trips_eq]; omega
    have ih := ih (by omega)
    unfold stores at ih ⊢
    rw [pb_k0_t1_succ (k := ⟨m, hk⟩)]
    change arg11.view.read (Elt Ideal) (arg11.view.writes (Elt Ideal) G11 (_ ++ _)) _ = _
    rw [View.writes_append, trip11]
    generalize arg11.view.writes (Elt Ideal) G11 _ = f at ih ⊢
    refine (read_cols ⟨m, hk⟩ u n arg11.view f (fun n => (pairs arg1 harg1 arg2 harg2 arg3 harg3 arg4 harg4 arg5 harg5 arg6 harg6 arg7 harg7 X ⟨m, hk⟩ n).dv (foundCols ⟨m, hk⟩ arg11 f n)) j (lane h e)).trans ?_
    by_cases hu : u = block ⟨m, hk⟩
    · subst hu
      rw [if_pos rfl, if_pos (show (block ⟨m, hk⟩).val < m + 1 from Nat.lt_succ_self m)]
      rw [(pairs_reads arg1 harg1 arg2 harg2 arg3 harg3 arg4 harg4 arg5 harg5 arg6 harg6 arg7 harg7 X ⟨m, hk⟩ n).dv, foundCols_apply, ih, if_neg (show ¬ (block ⟨m, hk⟩).val < m from Nat.lt_irrefl m)]
    · have hne : u.val ≠ m := fun c => hu (Fin.ext c)
      rw [if_neg hu, ih]
      by_cases hlt : u.val < m
      · rw [if_pos hlt, if_pos (by omega)]
      · rw [if_neg hlt, if_neg (by omega)]

/-- The bias's gradient after `m` trips: each has added its block's part. -/
theorem bias_after (m : ℕ) (hm : m ≤ 16) (n : Fin 4) (h : Fin 2) (a j : Fin 128) :
    arg9.view.read (Elt Ideal) (arg9.view.writes (Elt Ideal) G9 (stores c i arg1 harg1 arg2 harg2 arg3 harg3 arg4 harg4 arg5 harg5 arg6 harg6 arg7 harg7 arg8 harg8 arg9 harg9 arg10 harg10 arg11 harg11 X G8 G9 G10 G11 m).2.1) (ix3 (head n h) a (right j))
      = arg9.view.read (Elt Ideal) G9 (ix3 (head n h) a (right j)) + ∑ u : Fin 16 with u.val < m, X.score u n h a j := by
  induction m with
  | zero => rw [stores_zero]; simp
  | succ m ih =>
    have hk : m < k0_t1_loop.trips := by rw [trips_eq]; omega
    have ih := ih (by omega)
    unfold stores at ih ⊢
    rw [pb_k0_t1_succ (k := ⟨m, hk⟩)]
    change arg9.view.read (Elt Ideal) (arg9.view.writes (Elt Ideal) G9 (_ ++ _)) _ = _
    rw [View.writes_append, trip9]
    generalize arg9.view.writes (Elt Ideal) G9 _ = f at ih ⊢
    refine (read_heads n arg9.view f (fun n => (pairs arg1 harg1 arg2 harg2 arg3 harg3 arg4 harg4 arg5 harg5 arg6 harg6 arg7 harg7 X ⟨m, hk⟩ n).db (foundHeads arg9 f n)) h a j).trans ?_
    rw [(pairs_reads arg1 harg1 arg2 harg2 arg3 harg3 arg4 harg4 arg5 harg5 arg6 harg6 arg7 harg7 X ⟨m, hk⟩ n).db, foundHeads_apply, ih, add_assoc]
    have hs : (Finset.univ.filter fun u : Fin 16 => u.val < m + 1)
        = insert (block ⟨m, hk⟩) (Finset.univ.filter fun u : Fin 16 => u.val < m) := by
      ext u
      simp only [Finset.mem_filter, Finset.mem_univ, true_and, Finset.mem_insert, Fin.ext_iff, block]
      omega
    rw [hs, Finset.sum_insert (by simp [block]), add_comm (X.score _ _ _ _ _)]

/-- The bias's gradient keeps its left half. -/
theorem bias_left_after (m : ℕ) (hm : m ≤ 16) (h : Fin 8) (a j : Fin 128) :
    arg9.view.read (Elt Ideal) (arg9.view.writes (Elt Ideal) G9 (stores c i arg1 harg1 arg2 harg2 arg3 harg3 arg4 harg4 arg5 harg5 arg6 harg6 arg7 harg7 arg8 harg8 arg9 harg9 arg10 harg10 arg11 harg11 X G8 G9 G10 G11 m).2.1) (ix3 h a (left j))
      = arg9.view.read (Elt Ideal) G9 (ix3 h a (left j)) := by
  induction m with
  | zero => rw [stores_zero]; rfl
  | succ m ih =>
    have hk : m < k0_t1_loop.trips := by rw [trips_eq]; omega
    have ih := ih (by omega)
    unfold stores at ih ⊢
    rw [pb_k0_t1_succ (k := ⟨m, hk⟩)]
    change arg9.view.read (Elt Ideal) (arg9.view.writes (Elt Ideal) G9 (_ ++ _)) _ = _
    rw [View.writes_append, trip9]
    generalize arg9.view.writes (Elt Ideal) G9 _ = f at ih ⊢
    exact (read_heads_left arg9.view f (fun n => (pairs arg1 harg1 arg2 harg2 arg3 harg3 arg4 harg4 arg5 harg5 arg6 harg6 arg7 harg7 X ⟨m, hk⟩ n).db (foundHeads arg9 f n)) h a j).trans ih

end Cert.KernelIdeal.Own

end
-- ==== Proof.End.lean ====
module

public import proofs.«01_k».proof.Proof.LoopVals

@[expose] public section

/-
  What the two results hold when the kernel's body ends, as functions of what it finds in its inputs.
-/

set_option maxRecDepth 16384

noncomputable section

namespace Cert.KernelIdeal.Own

open Idealize.ShloMosaic Idealize.ShloMosaic.TcCoe Idealize.SL Idealize.SL.Sem Cert.KernelIdeal Cert.KernelIdeal.Gen

/-- The block of a row. -/
def rowBlock (r : Fin 2048) : Fin 16 := ⟨r.val / 128, by omega⟩

/-- The row in its block. -/
def rowIn (r : Fin 2048) : Fin 128 := ⟨r.val % 128, by omega⟩

/-- The pair of a column. -/
def colPair (c : Fin 512) : Fin 4 := ⟨c.val / 128, by omega⟩

/-- The head of a column in its pair. -/
def colHead (c : Fin 512) : Fin 2 := ⟨c.val / 64 % 2, by omega⟩

/-- The entry of a column in its head. -/
def colEntry (c : Fin 512) : Fin 64 := ⟨c.val % 64, by omega⟩

/-- The pair of a head. -/
def headPair (h : Fin 8) : Fin 4 := ⟨h.val / 2, by omega⟩

/-- The head in its pair. -/
def headIn (h : Fin 8) : Fin 2 := ⟨h.val % 2, by omega⟩

theorem row_split (r : Fin 2048) : row (rowBlock r) (rowIn r) = r :=
  Fin.ext (by simp only [row, rowBlock, rowIn]; omega)

theorem col_split (c : Fin 512) : col (colPair c) (lane (colHead c) (colEntry c)) = c :=
  Fin.ext (by simp only [col, lane, colPair, colHead, colEntry]; omega)

theorem head_split (h : Fin 8) : head (headPair h) (headIn h) = h :=
  Fin.ext (by simp only [head, headPair, headIn]; omega)

/-- What holds at every block, row, head and entry holds everywhere in a stack of three. -/
theorem forall_stack {P : S3x2048x512.Idx → Prop}
    (H : ∀ (a : Fin 3) (u : Fin 16) (i : Fin 128) (n : Fin 4) (h : Fin 2) (e : Fin 64), P (ix3 a (row u i) (col n (lane h e)))) :
    ∀ x, P x := by
  have H' : ∀ (a : Fin 3) (r : Fin 2048) (c : Fin 512), P (ix3 a r c) := fun a r c => by
    have := H a (rowBlock r) (rowIn r) (colPair c) (colHead c) (colEntry c)
    rwa [row_split, col_split] at this
  intro x
  have hx : x = ix3 (n0 := 3) (n1 := 2048) (n2 := 512) (x 0) (x 1) (x 2) := funext (forall_fin_three ⟨rfl, rfl, rfl⟩)
  rw [hx]
  exact H' _ _ _

/-- The same of the bias, half by half. -/
theorem forall_bias {P : S8x128x256.Idx → Prop}
    (H : ∀ (n : Fin 4) (h : Fin 2) (i j : Fin 128), P (ix3 (head n h) i (right j)))
    (H0 : ∀ (h : Fin 8) (i j : Fin 128), P (ix3 h i (left j))) : ∀ x, P x := by
  have H' : ∀ (h : Fin 8) (i : Fin 128) (j : Fin 256), P (ix3 h i j) := fun h i l => by
    by_cases hl : 128 ≤ l.val
    · obtain ⟨j, rfl⟩ : ∃ j, l = right j := ⟨⟨l.val - 128, by omega⟩, Fin.ext (by simp only [right]; omega)⟩
      have := H (headPair h) (headIn h) i j
      rwa [head_split] at this
    · obtain ⟨j, rfl⟩ : ∃ j, l = left j := ⟨⟨l.val, by omega⟩, rfl⟩
      exact H0 h i j
  intro x
  have hx : x = ix3 (n0 := 8) (n1 := 128) (n2 := 256) (x 0) (x 1) (x 2) := funext (forall_fin_three ⟨rfl, rfl, rfl⟩)
  rw [hx]
  exact H' _ _ _

section Split

variable (u : Fin 16) (i : Fin 128) (n : Fin 4) (h : Fin 2) (e : Fin 64)

theorem rowBlock_row : rowBlock (row u i) = u := Fin.ext (by simp only [row, rowBlock]; omega)
theorem rowIn_row : rowIn (row u i) = i := Fin.ext (by simp only [row, rowIn]; omega)
theorem colPair_col : colPair (col n (lane h e)) = n := Fin.ext (by simp only [col, lane, colPair]; omega)
theorem colHead_col : colHead (col n (lane h e)) = h := Fin.ext (by simp only [col, lane, colHead]; omega)
theorem colEntry_col : colEntry (col n (lane h e)) = e := Fin.ext (by simp only [col, lane, colEntry]; omega)
theorem headPair_head : headPair (head n h) = n := Fin.ext (by simp only [head, headPair]; omega)
theorem headIn_head : headIn (head n h) = h := Fin.ext (by simp only [head, headIn]; omega)

end Split

namespace Blocks

variable (X : Blocks)

/-- The three gradients, stacked. -/
def grads : Vec Ideal S3x2048x512 .bf16 := fun x =>
  have a : Fin 3 := x 0
  have r : Fin 2048 := x 1
  have c : Fin 512 := x 2
  if a = 0 then X.dq (rowBlock r) (colPair c) (colHead c) (rowIn r) (colEntry c)
  else if a = 1 then X.dk (rowBlock r) (colPair c) (colHead c) (rowIn r) (colEntry c)
  else X.dv (rowBlock r) (colPair c) (colHead c) (rowIn r) (colEntry c)

/-- The bias's gradient: nothing on the left half, whose keys would precede the block. -/
def biasGrad : Vec Ideal S8x128x256 .f32 := fun x =>
  have h : Fin 8 := x 0
  have i : Fin 128 := x 1
  have j : Fin 256 := x 2
  if g : 128 ≤ j.val then ∑ u, X.score u (headPair h) (headIn h) i ⟨j.val - 128, by omega⟩ else 0

theorem grads_apply (a : Fin 3) (u : Fin 16) (n : Fin 4) (h : Fin 2) (i : Fin 128) (e : Fin 64) :
    X.grads (ix3 a (row u i) (col n (lane h e)))
      = if a = 0 then X.dq u n h i e else if a = 1 then X.dk u n h i e else X.dv u n h i e := by
  change (if a = 0 then X.dq (rowBlock (row u i)) (colPair (col n (lane h e))) (colHead (col n (lane h e))) (rowIn (row u i)) (colEntry (col n (lane h e)))
    else if a = 1 then X.dk (rowBlock (row u i)) (colPair (col n (lane h e))) (colHead (col n (lane h e))) (rowIn (row u i)) (colEntry (col n (lane h e)))
    else X.dv (rowBlock (row u i)) (colPair (col n (lane h e))) (colHead (col n (lane h e))) (rowIn (row u i)) (colEntry (col n (lane h e)))) = _
  rw [rowBlock_row, rowIn_row, colPair_col, colHead_col, colEntry_col]

theorem biasGrad_right (n : Fin 4) (h : Fin 2) (i j : Fin 128) :
    X.biasGrad (ix3 (head n h) i (right j)) = ∑ u, X.score u n h i j := by
  change (if g : 128 ≤ (right j).val then ∑ u, X.score u (headPair (head n h)) (headIn (head n h)) i ⟨(right j).val - 128, _⟩ else 0) = _
  rw [dif_pos (by simp [right]), headPair_head, headIn_head]
  exact Finset.sum_congr rfl fun u _ => congrArg _ (Fin.ext (by simp [right]))

theorem biasGrad_left (h : Fin 8) (i j : Fin 128) : X.biasGrad (ix3 h i (left j)) = 0 :=
  dif_neg (show ¬ 128 ≤ (left j).val by simp [left])

end Blocks

section End

variable (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S2048x512 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x8x128x256 .f32) (harg7 : arg7.IsWhole) (arg8 : Memref sig .tc .vmem S3x2048x512 .bf16) (harg8 : arg8.IsWhole) (arg9 : Memref sig .tc .vmem S8x128x256 .f32) (harg9 : arg9.IsWhole) (arg10 : Memref sig .tc .vmem S2048x512 .f32) (harg10 : arg10.IsWhole) (arg11 : Memref sig .tc .vmem S2048x512 .f32) (harg11 : arg11.IsWhole)
  (X : Blocks) (f8 : BufTy.Contents (Elt Ideal) arg8.view.ty)

/-- A buffer filled with zeros reads zero. -/
theorem zeros_apply (m : Memref sig .tc .vmem S2048x512 .f32) (w : Vec Ideal S2048x512 .f32) (hw : ∀ y, w y = 0) (x : S2048x512.Idx) :
    m.view.read (Elt Ideal) (m.view.writes (Elt Ideal) m.view.junk [⟨Rect.unit (s := S2048x512) ![0, 0] S2048x512.size inb_S2048x512_S2048x512_0_0, w⟩]) x = 0 :=
  (View.read_writes_cons_unit_of_mem (s := S2048x512) (off := ![0, 0]) (size := S2048x512.size) _ _ _ _ _ _ x rfl
    (Fin.forall_fin_two.mpr ⟨by simp, by simp⟩)).trans (hw x)

theorem pay1_apply (y : S2048x512.Idx) : (k0_pay1 : FVec Ideal S2048x512 .f32) y = 0 := by pointwise [k0_pay1]

theorem pay2_apply (y : S2048x512.Idx) : (k0_pay2 : FVec Ideal S2048x512 .f32) y = 0 := by pointwise [k0_pay2]

theorem pay3_apply (y : S8x128x256.Idx) : (k0_pay3 : FVec Ideal S8x128x256 .f32) y = 0 := by pointwise [k0_pay3]

/-- A load of a whole buffer reads it. -/
theorem whole_apply (m : Memref sig .tc .vmem S2048x512 .f32) (f : BufTy.Contents (Elt Ideal) m.view.ty) (x : S2048x512.Idx) :
    m.view.readAt (Elt Ideal) (Rect.unit (s := S2048x512) ![0, 0] S2048x512.size inb_S2048x512_S2048x512_0_0).toLoadRect f x
      = m.view.read (Elt Ideal) f x := by
  rw [View.readAt_apply]
  exact congrArg _ (funext fun a => Fin.ext (by
    show (![0, 0] : Fin 2 → ℕ) a + 1 * (x a).val = (x a).val
    match a with
    | 0 => simp
    | 1 => simp))

/-- The stacked gradients when the body ends. -/
theorem grads_end :
    arg8.view.read (Elt Ideal) (arg8.view.writes (Elt Ideal) f8 (
      ⟨Rect.unit (s := S3x2048x512) ![2, 0, 0] S1x2048x512.size inb_S3x2048x512_S1x2048x512_2_0_0,
        k0_pay5 (arg11.view.readCov ((stores c i arg1 harg1 arg2 harg2 arg3 harg3 arg4 harg4 arg5 harg5 arg6 harg6 arg7 harg7 arg8 harg8 arg9 harg9 arg10 harg10 arg11 harg11 X f8 (arg9.view.writes (Elt Ideal) arg9.view.junk [⟨Rect.unit (s := S8x128x256) ![0, 0, 0] S8x128x256.size inb_S8x128x256_S8x128x256_0_0_0, k0_pay3 (F := Ideal)⟩]) (arg10.view.writes (Elt Ideal) arg10.view.junk [⟨Rect.unit (s := S2048x512) ![0, 0] S2048x512.size inb_S2048x512_S2048x512_0_0, k0_pay1 (F := Ideal)⟩]) (arg11.view.writes (Elt Ideal) arg11.view.junk [⟨Rect.unit (s := S2048x512) ![0, 0] S2048x512.size inb_S2048x512_S2048x512_0_0, k0_pay2 (F := Ideal)⟩]) k0_t1_loop.trips).2.2.2 ++ [⟨Rect.unit (s := S2048x512) ![0, 0] S2048x512.size inb_S2048x512_S2048x512_0_0, k0_pay2 (F := Ideal)⟩])
          (Rect.unit (s := S2048x512) ![0, 0] S2048x512.size inb_S2048x512_S2048x512_0_0).toLoadRect)⟩ ::
      ⟨Rect.unit (s := S3x2048x512) ![1, 0, 0] S1x2048x512.size inb_S3x2048x512_S1x2048x512_1_0_0,
        k0_pay4 (arg10.view.readCov ((stores c i arg1 harg1 arg2 harg2 arg3 harg3 arg4 harg4 arg5 harg5 arg6 harg6 arg7 harg7 arg8 harg8 arg9 harg9 arg10 harg10 arg11 harg11 X f8 (arg9.view.writes (Elt Ideal) arg9.view.junk [⟨Rect.unit (s := S8x128x256) ![0, 0, 0] S8x128x256.size inb_S8x128x256_S8x128x256_0_0_0, k0_pay3 (F := Ideal)⟩]) (arg10.view.writes (Elt Ideal) arg10.view.junk [⟨Rect.unit (s := S2048x512) ![0, 0] S2048x512.size inb_S2048x512_S2048x512_0_0, k0_pay1 (F := Ideal)⟩]) (arg11.view.writes (Elt Ideal) arg11.view.junk [⟨Rect.unit (s := S2048x512) ![0, 0] S2048x512.size inb_S2048x512_S2048x512_0_0, k0_pay2 (F := Ideal)⟩]) k0_t1_loop.trips).2.2.1 ++ [⟨Rect.unit (s := S2048x512) ![0, 0] S2048x512.size inb_S2048x512_S2048x512_0_0, k0_pay1 (F := Ideal)⟩])
          (Rect.unit (s := S2048x512) ![0, 0] S2048x512.size inb_S2048x512_S2048x512_0_0).toLoadRect)⟩ ::
      (stores c i arg1 harg1 arg2 harg2 arg3 harg3 arg4 harg4 arg5 harg5 arg6 harg6 arg7 harg7 arg8 harg8 arg9 harg9 arg10 harg10 arg11 harg11 X f8 (arg9.view.writes (Elt Ideal) arg9.view.junk [⟨Rect.unit (s := S8x128x256) ![0, 0, 0] S8x128x256.size inb_S8x128x256_S8x128x256_0_0_0, k0_pay3 (F := Ideal)⟩]) (arg10.view.writes (Elt Ideal) arg10.view.junk [⟨Rect.unit (s := S2048x512) ![0, 0] S2048x512.size inb_S2048x512_S2048x512_0_0, k0_pay1 (F := Ideal)⟩]) (arg11.view.writes (Elt Ideal) arg11.view.junk [⟨Rect.unit (s := S2048x512) ![0, 0] S2048x512.size inb_S2048x512_S2048x512_0_0, k0_pay2 (F := Ideal)⟩]) k0_t1_loop.trips).1)) = X.grads := by
  rw [trips_eq]
  refine funext (forall_stack fun a u j n h e => ?_)
  rw [Blocks.grads_apply]
  match a with
  | 0 =>
    refine (View.read_writes_cons_unit_of_not_mem _ _ _ _ _ _ rfl (0 : Fin 3) (.inl ?_)).trans ?_
    · simp [ix3]
    refine (View.read_writes_cons_unit_of_not_mem _ _ _ _ _ _ rfl (0 : Fin 3) (.inl ?_)).trans ?_
    · simp [ix3]
    exact (queries_after c i arg1 harg1 arg2 harg2 arg3 harg3 arg4 harg4 arg5 harg5 arg6 harg6 arg7 harg7 arg8 harg8 arg9 harg9 arg10 harg10 arg11 harg11 X f8 _ _ _ 16 le_rfl u n h j e).trans ((if_pos u.isLt).trans (if_pos rfl).symm)
  | 1 =>
    refine (View.read_writes_cons_unit_of_not_mem _ _ _ _ _ _ rfl (0 : Fin 3) (.inl ?_)).trans ?_
    · simp [ix3]
    refine (View.read_writes_cons_unit_of_mem (s := S3x2048x512) (off := ![1, 0, 0]) (size := S1x2048x512.size) _ _ _ _ _ _
      (ix3 0 (row u j) (col n (lane h e))) rfl ?_).trans ?_
    · exact forall_fin_three ⟨by simp [ix3], by simp [ix3], by simp [ix3]⟩
    pointwise [k0_pay4]
    unfold View.readCov
    rw [whole_apply, View.writes_append, keys_after (hm := le_rfl), if_pos u.isLt, zeros_apply _ _ pay1_apply, zero_add]
  | 2 =>
    refine (View.read_writes_cons_unit_of_mem (s := S3x2048x512) (off := ![2, 0, 0]) (size := S1x2048x512.size) _ _ _ _ _ _
      (ix3 0 (row u j) (col n (lane h e))) rfl ?_).trans ?_
    · exact forall_fin_three ⟨by simp [ix3], by simp [ix3], by simp [ix3]⟩
    pointwise [k0_pay5]
    unfold View.readCov
    rw [whole_apply, View.writes_append, values_after (hm := le_rfl), if_pos u.isLt, zeros_apply _ _ pay2_apply, zero_add]

/-- The bias's gradient when the body ends. -/
theorem bias_end :
    arg9.view.read (Elt Ideal) (arg9.view.writes (Elt Ideal) arg9.view.junk ((stores c i arg1 harg1 arg2 harg2 arg3 harg3 arg4 harg4 arg5 harg5 arg6 harg6 arg7 harg7 arg8 harg8 arg9 harg9 arg10 harg10 arg11 harg11 X f8 (arg9.view.writes (Elt Ideal) arg9.view.junk [⟨Rect.unit (s := S8x128x256) ![0, 0, 0] S8x128x256.size inb_S8x128x256_S8x128x256_0_0_0, k0_pay3 (F := Ideal)⟩]) (arg10.view.writes (Elt Ideal) arg10.view.junk [⟨Rect.unit (s := S2048x512) ![0, 0] S2048x512.size inb_S2048x512_S2048x512_0_0, k0_pay1 (F := Ideal)⟩]) (arg11.view.writes (Elt Ideal) arg11.view.junk [⟨Rect.unit (s := S2048x512) ![0, 0] S2048x512.size inb_S2048x512_S2048x512_0_0, k0_pay2 (F := Ideal)⟩]) k0_t1_loop.trips).2.1 ++
      [⟨Rect.unit (s := S8x128x256) ![0, 0, 0] S8x128x256.size inb_S8x128x256_S8x128x256_0_0_0, k0_pay3 (F := Ideal)⟩])) = X.biasGrad := by
  have zero : ∀ y, arg9.view.read (Elt Ideal) (arg9.view.writes (Elt Ideal) arg9.view.junk
      [⟨Rect.unit (s := S8x128x256) ![0, 0, 0] S8x128x256.size inb_S8x128x256_S8x128x256_0_0_0, k0_pay3 (F := Ideal)⟩]) y = 0 := fun y =>
    (View.read_writes_cons_unit_of_mem (s := S8x128x256) (off := ![0, 0, 0]) (size := S8x128x256.size) _ _ _ _ _ _ y rfl
      (forall_fin_three ⟨by simp, by simp, by simp⟩)).trans (pay3_apply y)
  rw [trips_eq, View.writes_append]
  refine funext (forall_bias (fun n h r j => ?_) fun a r j => ?_)
  · rw [X.biasGrad_right]
    refine (bias_after c i arg1 harg1 arg2 harg2 arg3 harg3 arg4 harg4 arg5 harg5 arg6 harg6 arg7 harg7 arg8 harg8 arg9 harg9 arg10 harg10 arg11 harg11 X f8 _ _ _ 16 le_rfl _ _ r j).trans ?_
    rw [zero, zero_add]
    exact Finset.sum_congr (Finset.filter_true_of_mem fun u _ => u.isLt) fun _ _ => rfl
  · rw [X.biasGrad_left]
    exact (bias_left_after c i arg1 harg1 arg2 harg2 arg3 harg3 arg4 harg4 arg5 harg5 arg6 harg6 arg7 harg7 arg8 harg8 arg9 harg9 arg10 harg10 arg11 harg11 X f8 _ _ _ 16 le_rfl a r j).trans (zero _)

end End

end Cert.KernelIdeal.Own

end
-- ==== Proof.Body.lean ====
module

public import proofs.«01_k».proof.Proof.End
public import proofs.«01_k».proof.Proof.Gen.KernelIdeal.Frame.Runs

@[expose] public section

/-
  The kernel's body, run over the extended reals: from its seven inputs' blocks it leaves the stacked gradients and the
  bias's gradient.
-/

set_option maxRecDepth 16384

noncomputable section

namespace Cert.KernelIdeal.Own

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body's triple. -/
theorem body_triple (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S2048x512 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x8x128x256 .f32) (harg7 : arg7.IsWhole) (arg8 : Memref sig .tc .vmem S3x2048x512 .bf16) (harg8 : arg8.IsWhole) (arg9 : Memref sig .tc .vmem S8x128x256 .f32) (harg9 : arg9.IsWhole) (arg10 : Memref sig .tc .vmem S2048x512 .f32) (harg10 : arg10.IsWhole) (arg11 : Memref sig .tc .vmem S2048x512 .f32) (harg11 : arg11.IsWhole)
    (X : Blocks) :
      ∀ (E : Set ℕ) (K : PUnit → sProp 𝕄),
        iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.grads ∗ owns (c : Thread nD τ) arg9 fullShare X.biasGrad ∗ (∃ d, owns (c : Thread nD τ) arg10 fullShare d) ∗ (∃ d, owns (c : Thread nD τ) arg11 fullShare d)) -∗ K ⟨⟩))
          ⊢ wp frame (wpE (defs₀ (F := Ideal)) Variants.none c none) E (cc0_att_bwd i arg1 harg1 arg2 harg2 arg3 harg3 arg4 harg4 arg5 harg5 arg6 harg6 arg7 harg7 arg8 harg8 arg9 harg9 arg10 harg10 arg11 harg11) K := by
  intro E K
  simp only [cc0_att_bwd_eq_skeleton]; unfold cc0_att_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]; · iexists _; isplitr; swap; (· iexact H0); ipureintro; exact harg1.read_unread _
  isplitl [H1]; · iexists _; isplitr; swap; (· iexact H1); ipureintro; exact harg2.read_unread _
  isplitl [H2]; · iexists _; isplitr; swap; (· iexact H2); ipureintro; exact harg3.read_unread _
  isplitl [H3]; · iexists _; isplitr; swap; (· iexact H3); ipureintro; exact harg4.read_unread _
  isplitl [H4]; · iexists _; isplitr; swap; (· iexact H4); ipureintro; exact harg5.read_unread _
  isplitl [H5]; · iexists _; isplitr; swap; (· iexact H5); ipureintro; exact harg6.read_unread _
  isplitl [H6]; · iexists _; isplitr; swap; (· iexact H6); ipureintro; exact harg7.read_unread _
  isplitl [H7]
  · iexists _; isplitr
    swap; · iexact H7
    ipureintro
    exact grads_end c i arg1 harg1 arg2 harg2 arg3 harg3 arg4 harg4 arg5 harg5 arg6 harg6 arg7 harg7 arg8 harg8 arg9 harg9 arg10 harg10 arg11 harg11 X f7
  isplitl [H8]
  · iexists _; isplitr
    swap; · iexact H8
    ipureintro
    exact bias_end c i arg1 harg1 arg2 harg2 arg3 harg3 arg4 harg4 arg5 harg5 arg6 harg6 arg7 harg7 arg8 harg8 arg9 harg9 arg10 harg10 arg11 harg11 X f7
  isplitl [HS0]
  · iexists _, _; isplitr
    swap; · iexact HS0
    ipureintro; rfl
  iexists _, _; isplitr
  swap; · iexact HS1
  ipureintro; rfl

end Cert.KernelIdeal.Own

end
-- ==== Proof.Launch.lean ====
module

public import proofs.«01_k».proof.Proof.Body
public import Idealize.ShloMosaic.Lib.Claim
public import Idealize.ShloMosaic.Lib.Pipeline.Value

@[expose] public section

/-
  The kernel's launch over the extended reals: one grid point, whose body runs from the seven blocks the pipeline fetched
  and whose two results are written back whole.
-/

set_option maxRecDepth 16384

noncomputable section

namespace Cert.KernelIdeal.Own

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The seven blocks the body is given. -/
def inputs (c : Dev nD) (t : Fin cfg0.N) : Blocks :=
  ⟨iblk m c 0 t, iblk m c 1 t, iblk m c 2 t, iblk m c 3 t, iblk m c 4 t, iblk m c 5 t, iblk m c 6 t⟩

/-- The launch's proof data: the arrays as the launch finds them, each input's block left as it was, and the two results. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (inputs m c t).grads
    | ⟨8, _⟩ => (inputs m c t).biasGrad
  Φ _ := Pipeline.ΦA spec0 c
  q w := Pipeline.shareOf spec0 w
  owed _ := 0

/-- The arrays are what the host code before the launch left. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (inputs m c t).grads := by dsimp only [dats]
theorem after_8 (c : Dev nD) (t : Fin cfg0.N) : (dats m 0 c).after 8 t = (inputs m c t).biasGrad := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at the grid's point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c (grid0.coords t) _ _ _ _ _ _ _ _ _ _ _ _ _ _ _ _ _ _ _ _ _ _ (inputs m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the table names is the body at the point. -/
theorem defs₀_row (t : Fin cfg0.N) :
    defs₀ (F := Ideal) .tc cfg0.body (cfg0.bodyArgs t (cfg0.slots t)) = bodyAt0 t := by
  unfold defs₀; rw [Defs.onTc_tc]

/-- The launch's obligation for its body. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

-- the launch theorem's implicit arguments are found by unfolding plain definitions in types
set_option backward.isDefEq.respectTransparency.types false in
/-- Every run ends, with the arrays as the proof data says and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Own

end
-- ==== Proof.Host.lean ====
module

public import proofs.«01_k».proof.Proof.Stages
public import proofs.«01_k».proof.Proof.Launch
public import Idealize.ShloMosaic.Lib.StableHlo.ReadAt

@[expose] public section

/-
  The host code before the launch: each array the launch is given, from the program's arguments.  The saved output and
  log-sum-exp are the forward pass, which the reference's stages name.
-/

set_option maxRecDepth 16384

noncomputable section

namespace Cert.KernelIdeal.Own

open Idealize.ShloMosaic Idealize.ShloMosaic.TcCoe Idealize.ShloMosaic.StableHlo Cert.KernelIdeal Cert.KernelIdeal.Gen
open Cert.ReferenceIdeal.Read (val_main_v0 val_main_v1 val_main_v42 val_main_v43)

variable (m : (ℓ : Loc nD τ sig) → Buf (Elt Ideal) ℓ) (c : Dev nD)

abbrev arg0 : Vec Ideal S2048x512 .f32 := m ((c.tc : Thread nD τ).loc main_arg0)
abbrev arg1 : Vec Ideal S2048x512 .f32 := m ((c.tc : Thread nD τ).loc main_arg1)
abbrev arg2 : Vec Ideal S2048x512 .f32 := m ((c.tc : Thread nD τ).loc main_arg2)
abbrev arg3 : Vec Ideal S3x8x128x256 .f32 := m ((c.tc : Thread nD τ).loc main_arg3)
abbrev arg4 : Vec Ideal S2048x512 .f32 := m ((c.tc : Thread nD τ).loc main_arg4)
abbrev arg5 : Vec Ideal S2048x8 .f32 := m ((c.tc : Thread nD τ).loc main_arg5)

/-- The tokens in the order of their residues. -/
def byResidue (t : Vec Ideal S2048x512 .f32) : Vec Ideal S2048x512 .f32 :=
  shapeCast _ (transpose S16x128x512 [1, 0, 2] (shapeCast _ t shapeCasts_S2048x512_S128x16x512) transposes_S128x16x512_S16x128x512_1_0_2) shapeCasts_S16x128x512_S2048x512

/-- A number per row and head in the order of the residues, on the first lanes of a row of lanes. -/
def lanes (t : Vec Ideal S128x16x8 .f32) : Vec Ideal S2048x128 .f32 :=
  pad S2048x128 ![0, 0] ![0, 120] ![0, 0]
    (shapeCast S2048x8 (transpose S16x128x8 [1, 0, 2] t transposes_S128x16x8_S16x128x8_1_0_2) shapeCasts_S16x128x8_S2048x8)
    (sitofp (F := Ideal) .f32 (constantI S_ 32 0#32)) pads_S2048x8_S2048x128_000_01200 h_S_

/-- The queries, scaled, the keys and the values, stacked. -/
def stack (q k v : Vec Ideal S2048x512 .f32) : Vec Ideal S3x2048x512 .bf16 :=
  truncf (F := Ideal) .bf16 (concatenate S3x2048x512 0
    [⟨S1x2048x512, broadcastInDim S1x2048x512 ![1, 2] bcast_S2048x512_S1x2048x512_1_2
        (byResidue (mulf (F := Ideal) q (broadcastInDim S2048x512 ![] bcast_S_S2048x512 (constant (F := Ideal) S_ .f32 0x3E000000#32))))⟩,
      ⟨S1x2048x512, broadcastInDim S1x2048x512 ![1, 2] bcast_S2048x512_S1x2048x512_1_2 (byResidue k)⟩,
      ⟨S1x2048x512, broadcastInDim S1x2048x512 ![1, 2] bcast_S2048x512_S1x2048x512_1_2 (byResidue v)⟩]
    concatenates_S1x2048x512_S1x2048x512_S1x2048x512_S3x2048x512_d0) bitsLt_bf16_f32

/-- What is taken from every score's gradient of a row: the output's gradient against the output, less the log-sum-exp's. -/
def correction (q k v : Vec Ideal S2048x512 .f32) (b : Vec Ideal S3x8x128x256 .f32) (g : Vec Ideal S2048x512 .f32)
    (l : Vec Ideal S2048x8 .f32) : Vec Ideal S128x16x8 .f32 :=
  subf (F := Ideal) (Host.reduceAdd (mulf (F := Ideal) (val_main_v0 (F := Ideal) g) (val_main_v42 (F := Ideal) q k v b)) (constant (F := Ideal) S_ .f32 0x00000000#32)
    reducesTo_S128x16x8x64_S128x16x8_d3 h_S_) (val_main_v1 (F := Ideal) l)

theorem V_stack : V m c main_v30 = stack (arg0 m c) (arg1 m c) (arg2 m c) := by
  after_reads_simp
  all_goals try simp -implicitDefEqProofs only [StableHlo.TRef.toBuf, StableHlo.TRef.ofBuf, cast_cast, cast_eq]
  all_goals clean_types
  rfl

theorem V_gout : V m c main_v73 = truncf (F := Ideal) .bf16 (byResidue (arg4 m c)) bitsLt_bf16_f32 := by
  after_reads_simp
  all_goals try simp -implicitDefEqProofs only [StableHlo.TRef.toBuf, StableHlo.TRef.ofBuf, cast_cast, cast_eq]
  all_goals clean_types
  rfl

theorem V_lse : V m c main_v76 = lanes (val_main_v43 (F := Ideal) (arg0 m c) (arg1 m c) (arg3 m c)) := by
  after_reads_simp
  all_goals try simp -implicitDefEqProofs only [StableHlo.TRef.toBuf, StableHlo.TRef.ofBuf, cast_cast, cast_eq]
  all_goals clean_types
  rfl

theorem V_correction : V m c main_v79
    = lanes (correction (arg0 m c) (arg1 m c) (arg2 m c) (arg3 m c) (arg4 m c) (arg5 m c)) := by
  after_reads_simp
  all_goals try simp -implicitDefEqProofs only [StableHlo.TRef.toBuf, StableHlo.TRef.ofBuf, cast_cast, cast_eq]
  all_goals clean_types
  rfl

end Cert.KernelIdeal.Own

end
-- ==== Proof.HostAt.lean ====
module

public import proofs.«01_k».proof.Proof.Host
public import Idealize.ShloMosaic.Lib.Pipeline.ValueKit

@[expose] public section

/-
  What the launch finds in its seven inputs, at an index: row `i` of block `u` is the token of row `i` and residue `u`.
-/

set_option maxRecDepth 16384

noncomputable section

namespace Cert.KernelIdeal.Own

open Idealize.ShloMosaic Idealize.ShloMosaic.TcCoe Idealize.ShloMosaic.StableHlo Cert.KernelIdeal Cert.KernelIdeal.Gen
open Cert.ReferenceIdeal.Read (val_main_v0 val_main_v1 val_main_v42 val_main_v43)
open Cert.ReferenceIdeal.Own (tok entry cur eighth)

variable (m : (ℓ : Loc nD τ sig) → Buf (Elt Ideal) ℓ) (c : Dev nD) (t : Fin cfg0.N)

theorem row_eq (u : Fin 16) (i : Fin 128) : row u i = ⟨u.val * 128 + i.val, by omega⟩ :=
  Fin.ext (by show 128 * u.val + i.val = u.val * 128 + i.val; omega)

theorem col_eq (n : Fin 4) (h : Fin 2) (e : Fin 64) : col n (lane h e) = entry (head n h) e :=
  Fin.ext (by show 128 * n.val + (64 * h.val + e.val) = (2 * n.val + h.val) * 64 + e.val; omega)

theorem byResidue_apply (x : Vec Ideal S2048x512 .f32) (u : Fin 16) (i : Fin 128) (d : Fin 512) :
    byResidue x (ix2 (row u i) d) = x (ix2 (tok i u) d) := by
  rw [row_eq]
  pointwise [byResidue]
  rfl

theorem lanes_apply (x : Vec Ideal S128x16x8 .f32) (u : Fin 16) (i : Fin 128) (n : Fin 4) (h : Fin 2) :
    lanes x (ix2 (row u i) (hcol n h)) = x (ix3 i u (head n h)) := by
  have e : hcol n h = ⟨(head n h).val, by omega⟩ := rfl
  rw [row_eq, e]
  pointwise [lanes]
  exact dif_pos (by omega)

theorem stack_apply (q k v : Vec Ideal S2048x512 .f32) (a : Fin 3) (u : Fin 16) (i : Fin 128) (d : Fin 512) :
    stack q k v (ix3 a (row u i) d)
      = if a = 0 then q (ix2 (tok i u) d) * eighth else if a = 1 then k (ix2 (tok i u) d) else v (ix2 (tok i u) d) := by
  rw [← byResidue_apply k, ← byResidue_apply v]
  pointwise [stack]
  fin_cases a
  · refine (byResidue_apply _ u i d).trans ?_
    pointwise []
  · rfl
  · rfl

theorem correction_apply (q k v : Vec Ideal S2048x512 .f32) (b : Vec Ideal S3x8x128x256 .f32) (g : Vec Ideal S2048x512 .f32)
    (l : Vec Ideal S2048x8 .f32) (i : Fin 128) (u : Fin 16) (h : Fin 8) :
    correction q k v b g l (ix3 i u h)
      = (∑ e : Fin 64, g (ix2 (tok i u) (entry h e)) * val_main_v42 (F := Ideal) q k v b (ix4 i u h e)) - l (ix2 (tok i u) h) := by
  pointwise [correction, val_main_v0, val_main_v1]
  rfl

theorem band_cond : ∀ i j : Fin 128,
    IntOp.andi
        (IntOp.cmpi CmpIPredicate.sge (IntOp.subi (IntOp.addi (BitVec.ofNat 32 i.val) 128#32) (BitVec.ofNat 32 (right j).val)) 0#32)
        (IntOp.cmpi CmpIPredicate.sle (IntOp.subi (IntOp.addi (BitVec.ofNat 32 i.val) 128#32) (BitVec.ofNat 32 (right j).val)) 128#32)
      = if j ≤ i then 1#1 else 0#1 := by
  decide +kernel

theorem V_mask (h : Fin 8) (i j : Fin 128) :
    V m c main_v14 (ix4 2 h i (right j)) = if j ≤ i then arg3 m c (ix4 2 h i (cur j)) else ⊥ := by
  after_reads_at
  rw [band_cond]
  by_cases hij : j ≤ i
  · rw [if_pos hij, if_pos hij]
    rfl
  · rw [if_neg hij, if_neg hij]
    refine Eq.trans (b := Ideal.ofBits .f32 0xFF800000#32) rfl ?_
    simp [Ideal.ofBits, Ideal.ieee]

theorem index_0 : ∀ t : Fin cfg0.N, win0_0.index t = ![0, 0, 0] := by decide +kernel
theorem index_1 : ∀ t : Fin cfg0.N, win0_1.index t = ![1, 0, 0] := by decide +kernel
theorem index_2 : ∀ t : Fin cfg0.N, win0_2.index t = ![2, 0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![2, 0, 0, 0] := by decide +kernel

theorem blk_0 (x : Fin 2048) (d : Fin 512) : iblk m c 0 t (ix3 0 x d) = V m c main_v30 (ix3 0 x d) := by
  unfold iblk
  blk_ext [index_0 t]

theorem blk_1 (x : Fin 2048) (d : Fin 512) : iblk m c 1 t (ix3 0 x d) = V m c main_v30 (ix3 1 x d) := by
  unfold iblk
  blk_ext [index_1 t]

theorem blk_2 (x : Fin 2048) (d : Fin 512) : iblk m c 2 t (ix3 0 x d) = V m c main_v30 (ix3 2 x d) := by
  unfold iblk
  blk_ext [index_2 t]

theorem blk_3 (x : Fin 2048) (d : Fin 512) : iblk m c 3 t (ix2 x d) = V m c main_v73 (ix2 x d) := by
  unfold iblk
  blk_ext [index_3 t]

theorem blk_4 (x : Fin 2048) (d : Fin 128) : iblk m c 4 t (ix2 x d) = V m c main_v76 (ix2 x d) := by
  unfold iblk
  blk_ext [index_4 t]

theorem blk_5 (x : Fin 2048) (d : Fin 128) : iblk m c 5 t (ix2 x d) = V m c main_v79 (ix2 x d) := by
  unfold iblk
  blk_ext [index_5 t]

theorem blk_6 (h : Fin 8) (i : Fin 128) (j : Fin 256) : iblk m c 6 t (ix4 0 h i j) = V m c main_v14 (ix4 2 h i j) := by
  unfold iblk
  blk_ext [index_6 t]

end Cert.KernelIdeal.Own

end
-- ==== Proof.Reals.lean ====
module

public import proofs.«01_k».proof.Proof.Stages

@[expose] public section

/-
  The reference's stages over finite arguments are real numbers.  Row `i` of residue `r` and head `h` attends to the rows
  `j ≤ i` of its residue; the gradient that reaches its maximum is zero, since the weights' gradients sum to the
  log-sum-exp's.
-/

set_option maxRecDepth 16384

noncomputable section

namespace Cert.ReferenceIdeal.Own

open Idealize.ShloMosaic Idealize.ShloMosaic.TcCoe Idealize.ShloMosaic.StableHlo Cert.ReferenceIdeal Cert.ReferenceIdeal.Gen
open Cert.ReferenceIdeal.Read

theorem coe_sum {ι : Type} (s : Finset ι) (f : ι → ℝ) : ((∑ i ∈ s, f i : ℝ) : EReal) = ∑ i ∈ s, (f i : EReal) := by
  induction s using Finset.cons_induction with
  | empty => rfl
  | cons a s ha ih => rw [Finset.sum_cons, Finset.sum_cons, EReal.coe_add, ih]

theorem div_coe_coe (x : ℝ) {y : ℝ} (hy : y ≠ 0) : Ideal.div (x : EReal) (y : EReal) = ((x / y : ℝ) : EReal) := by
  rw [Ideal.div_coe hy, ← EReal.coe_mul, mul_one_div]

theorem ofBits_bot : Ideal.ofBits .f32 0xFF800000#32 = ⊥ := by simp [Ideal.ofBits, Ideal.ieee]

theorem ofBits_one : Ideal.ofBits .f32 0x3F800000#32 = ((1 : ℝ) : EReal) := by
  simp [Ideal.ofBits, Ideal.ieee]
  rw [← EReal.coe_mul, ← EReal.coe_one]
  norm_num

theorem ofBits_eighth : ∃ s : ℝ, eighth = s := ⟨1 / 8, by
  simp [eighth, Ideal.ofBits, Ideal.ieee]
  rw [← EReal.coe_mul]
  norm_num⟩

theorem causal_cond : ∀ i j : Fin 128,
    IntOp.cmpi CmpIPredicate.sge (BitVec.ofNat 32 i.val) (BitVec.ofNat 32 j.val) = if j ≤ i then 1#1 else 0#1 := by
  decide +kernel

theorem select_causal (i j : Fin 128) (x y : EReal) :
    Scalar.select (IntOp.cmpi CmpIPredicate.sge (BitVec.ofNat 32 i.val) (BitVec.ofNat 32 j.val)) x y = if j ≤ i then x else y := by
  rw [causal_cond]
  by_cases hij : j ≤ i
  · rw [if_pos hij, if_pos hij]; rfl
  · rw [if_neg hij, if_neg hij]; rfl

/-- Every entry is a real number. -/
def Finite {s : Shape} (x : s.Idx → EReal) : Prop := ∀ i, x i = ((x i).toReal : EReal)

variable (q k v : Vec Ideal S2048x512 .f32) (b : Vec Ideal S3x8x128x256 .f32) (g : Vec Ideal S2048x512 .f32) (l : Vec Ideal S2048x8 .f32)

section Numbers

variable (r : Fin 16) (h : Fin 8)

def entryOf (x : Vec Ideal S2048x512 .f32) (i : Fin 128) (e : Fin 64) : ℝ := (x (ix2 (tok i r) (entry h e))).toReal
def query (i : Fin 128) (e : Fin 64) : ℝ := entryOf r h q i e * eighth.toReal
def saved (i : Fin 128) : ℝ := (l (ix2 (tok i r) h)).toReal
/-- The scores. -/
def S (i j : Fin 128) : ℝ := ∑ e, query q r h i e * entryOf r h k j e + (b (ix4 2 h i (cur j))).toReal
/-- A row's greatest score. -/
def top (i : Fin 128) : ℝ := (val_main_v20 (F := Ideal) q k b (ix3 r h i)).toReal
/-- The weights, before their division. -/
def P (i j : Fin 128) : ℝ := if j ≤ i then Real.exp (S q k b r h i j - top q k b r h i) else 0
def D (i : Fin 128) : ℝ := ∑ j, P q k b r h i j
def Nm (i : Fin 128) (e : Fin 64) : ℝ := ∑ j, P q k b r h i j * entryOf r h v j e
/-- What is taken from every score's gradient. -/
def C (i : Fin 128) : ℝ := ∑ e, entryOf r h g i e * (Nm q k v b r h i e / D q k b r h i) - saved l r h i
/-- The scores' gradients. -/
def X (i j : Fin 128) : ℝ :=
  P q k b r h i j / D q k b r h i * (∑ e, entryOf r h g i e * entryOf r h v j e - C q k v b g l r h i)

theorem P_nonneg (i j : Fin 128) : 0 ≤ P q k b r h i j := by
  unfold P
  split_ifs
  · exact (Real.exp_pos _).le
  · exact le_rfl

theorem D_pos (i : Fin 128) : 0 < D q k b r h i := by
  refine Finset.sum_pos' (fun j _ => P_nonneg q k b r h i j) ⟨i, Finset.mem_univ i, ?_⟩
  unfold P
  rw [if_pos le_rfl]
  exact Real.exp_pos _

/-- The gradients of a row's scores sum to the gradient of its log-sum-exp. -/
theorem sum_X (i : Fin 128) : ∑ j, X q k v b g l r h i j = saved l r h i := by
  have hD := (D_pos q k b r h i).ne'
  have e1 : ∑ j, P q k b r h i j * ∑ e, entryOf r h g i e * entryOf r h v j e
      = ∑ e, entryOf r h g i e * Nm q k v b r h i e := by
    simp only [Nm, Finset.mul_sum]
    rw [Finset.sum_comm]
    exact Finset.sum_congr rfl fun e _ => Finset.sum_congr rfl fun j _ => by ring
  have e2 : ∑ e, entryOf r h g i e * (Nm q k v b r h i e / D q k b r h i)
      = (∑ e, entryOf r h g i e * Nm q k v b r h i e) / D q k b r h i := by
    rw [Finset.sum_div]
    exact Finset.sum_congr rfl fun e _ => by ring
  have e3 : ∑ j, X q k v b g l r h i j
      = (∑ j, P q k b r h i j * ∑ e, entryOf r h g i e * entryOf r h v j e) / D q k b r h i
        - (∑ j, P q k b r h i j) / D q k b r h i * C q k v b g l r h i := by
    rw [Finset.sum_div, Finset.sum_div, Finset.sum_mul, ← Finset.sum_sub_distrib]
    exact Finset.sum_congr rfl fun j _ => by unfold X; ring
  rw [e3, e1, show ∑ j, P q k b r h i j = D q k b r h i from rfl, div_self hD, one_mul]
  unfold C
  rw [e2]
  ring

end Numbers

section Coe

variable {q k v b g l} (hq : Finite q) (hk : Finite k) (hv : Finite v) (hb : Finite b) (hg : Finite g) (hl : Finite l)
variable (r : Fin 16) (h : Fin 8)

theorem entry_coe {x : Vec Ideal S2048x512 .f32} (hx : Finite x) (i : Fin 128) (e : Fin 64) :
    x (ix2 (tok i r) (entry h e)) = (entryOf r h x i e : EReal) := hx _

include hl in
theorem saved_coe (i : Fin 128) : l (ix2 (tok i r) h) = (saved l r h i : EReal) := hl _

include hq in
theorem query_coe (i : Fin 128) (e : Fin 64) : val_main_v7 (F := Ideal) q (ix4 i r h e) = (query q r h i e : EReal) := by
  obtain ⟨s, hs⟩ := ofBits_eighth
  rw [queries_apply, entry_coe r h hq, query, EReal.coe_mul, hs, EReal.toReal_coe]

include hq hk hb in
theorem scores_coe (i j : Fin 128) :
    val_main_v19_0 (F := Ideal) q k b (ix4 r h i j) = if j ≤ i then (S q k b r h i j : EReal) else ⊥ := by
  rw [scores_apply, select_causal, ofBits_bot, products_apply]
  congr 1
  rw [S, EReal.coe_add, coe_sum, ← hb]
  simp only [query_coe hq, entry_coe r h hk, EReal.coe_mul]

include hq hk hb in
/-- A row's greatest score is one of its scores. -/
theorem top_attained (i : Fin 128) :
    ∃ j, j ≤ i ∧ val_main_v20 (F := Ideal) q k b (ix3 r h i) = (S q k b r h i j : EReal) := by
  have e : val_main_v20 (F := Ideal) q k b (ix3 r h i)
      = Finset.univ.sup fun x => val_main_v19_0 (F := Ideal) q k b (ix4 r h i x) := by
    rw [top_apply, ofBits_bot]
    rfl
  obtain ⟨j, -, hj⟩ := Finset.exists_mem_eq_sup Finset.univ Finset.univ_nonempty
    fun x => val_main_v19_0 (F := Ideal) q k b (ix4 r h i x)
  have hi : (S q k b r h i i : EReal) ≤ val_main_v20 (F := Ideal) q k b (ix3 r h i) := by
    rw [e]
    refine le_trans (le_of_eq ?_) (Finset.le_sup (Finset.mem_univ i))
    rw [scores_coe hq hk hb, if_pos le_rfl]
  rw [← e, scores_coe hq hk hb] at hj
  by_cases hij : j ≤ i
  · exact ⟨j, hij, by rw [hj, if_pos hij]⟩
  · rw [hj, if_neg hij] at hi
    exact absurd hi (by simp)

include hq hk hb in
theorem top_coe (i : Fin 128) : val_main_v20 (F := Ideal) q k b (ix3 r h i) = (top q k b r h i : EReal) := by
  obtain ⟨j, -, hj⟩ := top_attained hq hk hb r h i
  rw [top, hj, EReal.toReal_coe]

include hq hk hb in
theorem weights_coe (i j : Fin 128) : val_main_v29 (F := Ideal) q k b (ix4 r h i j) = (P q k b r h i j : EReal) := by
  rw [weights_apply, scores_coe hq hk hb, top_coe hq hk hb, P]
  split_ifs
  · rw [← EReal.coe_sub, Ideal.exp_coe]
  · rw [EReal.bot_sub, Ideal.exp_bot, EReal.coe_zero]

include hq hk hb in
theorem total_coe (i : Fin 128) : val_main_v30 (F := Ideal) q k b (ix3 r h i) = (D q k b r h i : EReal) := by
  rw [total_apply, D, coe_sum]
  simp only [weights_coe hq hk hb]

include hq hk hv hb in
theorem numer_coe (i : Fin 128) (e : Fin 64) :
    val_main_v33 (F := Ideal) q k v b (ix4 r h i e) = (Nm q k v b r h i e : EReal) := by
  rw [numer_apply, Nm, coe_sum]
  simp only [weights_coe hq hk hb, entry_coe r h hv, EReal.coe_mul]

include hq hk hv hb in
theorem output_coe (i : Fin 128) (e : Fin 64) :
    val_main_v42 (F := Ideal) q k v b (ix4 i r h e) = ((Nm q k v b r h i e / D q k b r h i : ℝ) : EReal) := by
  rw [output_apply, numer_coe hq hk hv hb, total_coe hq hk hb, div_coe_coe _ (D_pos q k b r h i).ne']

include hq hk hb in
theorem lse_coe (i : Fin 128) :
    val_main_v43 (F := Ideal) q k b (ix3 i r h) = ((top q k b r h i + Real.log (D q k b r h i) : ℝ) : EReal) := by
  rw [lse_apply, top_coe hq hk hb, total_coe hq hk hb, Ideal.log_coe, if_neg (D_pos q k b r h i).not_ge, EReal.coe_add]

include hq hk hb hg in
theorem gout_coe (i : Fin 128) (e : Fin 64) :
    val_main_v56 (F := Ideal) q k b g (ix4 r h i e) = ((entryOf r h g i e / D q k b r h i : ℝ) : EReal) := by
  rw [gout_apply, total_coe hq hk hb, entry_coe r h hg, div_coe_coe _ (D_pos q k b r h i).ne']

include hq hk hv hb hg in
theorem inner_coe (i : Fin 128) : val_main_v51 (F := Ideal) q k v b g (ix3 r h i)
    = ((∑ e, entryOf r h g i e * (1 / (D q k b r h i * D q k b r h i)) * Nm q k v b r h i e : ℝ) : EReal) := by
  have hD := (D_pos q k b r h i).ne'
  rw [inner_apply, coe_sum, ofBits_one, total_coe hq hk hb, ← EReal.coe_mul, div_coe_coe _ (mul_ne_zero hD hD)]
  simp only [numer_coe hq hk hv hb, entry_coe r h hg, EReal.coe_mul]

include hq hk hv hb hg hl in
theorem gweights_coe (i j : Fin 128) :
    val_main_v64 (F := Ideal) q k v b g l (ix4 r h i j) = (X q k v b g l r h i j : EReal) := by
  have hD := (D_pos q k b r h i).ne'
  rw [gweights_apply, gtotal_apply, inner_coe hq hk hv hb hg, saved_coe hl, total_coe hq hk hb, weights_coe hq hk hb,
    div_coe_coe _ hD]
  simp only [gout_coe hq hk hb hg, entry_coe r h hv]
  simp only [← EReal.coe_mul, ← coe_sum, ← EReal.coe_neg, ← EReal.coe_add]
  congr 1
  have e1 : ∑ e, entryOf r h g i e / D q k b r h i * entryOf r h v j e
      = (∑ e, entryOf r h g i e * entryOf r h v j e) / D q k b r h i := by
    rw [Finset.sum_div]
    exact Finset.sum_congr rfl fun e _ => by ring
  have e2 : ∑ e, entryOf r h g i e * (1 / (D q k b r h i * D q k b r h i)) * Nm q k v b r h i e
      = (∑ e, entryOf r h g i e * (Nm q k v b r h i e / D q k b r h i)) / D q k b r h i := by
    rw [Finset.sum_div]
    exact Finset.sum_congr rfl fun e _ => by field_simp
  rw [e1, e2]
  unfold X C
  ring

include hq hk hv hb hg hl in
theorem gtop_coe (i : Fin 128) : val_main_v69 (F := Ideal) q k v b g l (ix3 r h i) = 0 := by
  rw [gtop_apply, saved_coe hl]
  simp only [gweights_coe hq hk hv hb hg hl, ← EReal.coe_neg]
  rw [← coe_sum, ← EReal.coe_add, Finset.sum_neg_distrib, sum_X, add_neg_cancel, EReal.coe_zero]

include hq hk hb in
theorem hits_coe (i j : Fin 128) : ∃ x : ℝ, 0 ≤ x ∧ val_main_v24 (F := Ideal) q k b (ix4 r h i j) = x
    ∧ (val_main_v19_0 (F := Ideal) q k b (ix4 r h i j) = val_main_v20 (F := Ideal) q k b (ix3 r h i) → 0 < x) := by
  rw [hits_apply]
  split_ifs with hs
  · exact ⟨1, zero_le_one, EReal.coe_one.symm, fun _ => one_pos⟩
  · exact ⟨0, le_rfl, EReal.coe_zero.symm, fun h => absurd h hs⟩

include hq hk hb in
theorem count_ne (i : Fin 128) : ∃ n : ℝ, n ≠ 0 ∧ val_main_v25 (F := Ideal) q k b (ix3 r h i) = n := by
  choose x hx0 hx hx1 using fun j => hits_coe hq hk hb r h i j
  refine ⟨∑ j, x j, ?_, ?_⟩
  · obtain ⟨j, hij, hj⟩ := top_attained hq hk hb r h i
    refine (Finset.sum_pos' (fun j _ => hx0 j) ⟨j, Finset.mem_univ j, hx1 j ?_⟩).ne'
    rw [scores_coe hq hk hb, if_pos hij, hj]
  · rw [count_apply, coe_sum]
    exact Finset.sum_congr rfl fun j _ => hx j

include hq hk hv hb hg hl in
theorem gscores_coe (i j : Fin 128) :
    val_main_v74 (F := Ideal) q k v b g l (ix4 r h i j) = (X q k v b g l r h i j : EReal) := by
  obtain ⟨n, hn, hc⟩ := count_ne hq hk hb r h i
  rw [gscores_apply, select_causal, gweights_coe hq hk hv hb hg hl, gtop_coe hq hk hv hb hg hl, hc, Ideal.div_coe hn,
    zero_mul, zero_mul, add_zero, Ideal.ofBits_zero_f32]
  split_ifs with hij
  · rfl
  · unfold X P
    rw [if_neg hij, zero_div, zero_mul, EReal.coe_zero]

end Coe

end Cert.ReferenceIdeal.Own

end
-- ==== Proof.Values.lean ====
module

public import proofs.«01_k».proof.Proof.HostAt
public import proofs.«01_k».proof.Proof.Reals

@[expose] public section

/-
  What the kernel computes from its inputs is what the reference's stages are, where the arguments are finite.
-/

set_option maxRecDepth 16384

noncomputable section

namespace Cert.KernelIdeal.Own

open Idealize.ShloMosaic Idealize.ShloMosaic.TcCoe Idealize.ShloMosaic.StableHlo Cert.KernelIdeal Cert.KernelIdeal.Gen
open Cert.ReferenceIdeal.Read
open Cert.ReferenceIdeal.Own (tok entry cur eighth Finite)

variable (m : (ℓ : Loc nD τ sig) → Buf (Elt Ideal) ℓ) (c : Dev nD) (t : Fin cfg0.N)

section Inputs

variable (u : Fin 16) (i : Fin 128) (n : Fin 4) (h : Fin 2) (e : Fin 64)

theorem input_q : (inputs m c t).x0 (ix3 0 (row u i) (col n (lane h e)))
    = val_main_v7 (F := Ideal) (arg0 m c) (ix4 i u (head n h) e) := by
  refine (blk_0 m c t _ _).trans ?_
  rw [V_stack, stack_apply, if_pos rfl, col_eq, Cert.ReferenceIdeal.Own.queries_apply]

theorem input_k : (inputs m c t).x1 (ix3 0 (row u i) (col n (lane h e))) = arg1 m c (ix2 (tok i u) (entry (head n h) e)) := by
  refine (blk_1 m c t _ _).trans ?_
  rw [V_stack, stack_apply, if_neg (by decide), if_pos rfl, col_eq]

theorem input_v : (inputs m c t).x2 (ix3 0 (row u i) (col n (lane h e))) = arg2 m c (ix2 (tok i u) (entry (head n h) e)) := by
  refine (blk_2 m c t _ _).trans ?_
  rw [V_stack, stack_apply, if_neg (by decide), if_neg (by decide), col_eq]

theorem input_g : (inputs m c t).x3 (ix2 (row u i) (col n (lane h e))) = arg4 m c (ix2 (tok i u) (entry (head n h) e)) := by
  refine (blk_3 m c t _ _).trans ?_
  rw [V_gout]
  refine (byResidue_apply _ u i _).trans ?_
  rw [col_eq]

theorem input_lse : (inputs m c t).x4 (ix2 (row u i) (hcol n h))
    = val_main_v43 (F := Ideal) (arg0 m c) (arg1 m c) (arg3 m c) (ix3 i u (head n h)) := by
  refine (blk_4 m c t _ _).trans ?_
  rw [V_lse, lanes_apply]

theorem input_c : (inputs m c t).x5 (ix2 (row u i) (hcol n h))
    = (∑ e : Fin 64, arg4 m c (ix2 (tok i u) (entry (head n h) e))
        * val_main_v42 (F := Ideal) (arg0 m c) (arg1 m c) (arg2 m c) (arg3 m c) (ix4 i u (head n h) e))
      - arg5 m c (ix2 (tok i u) (head n h)) := by
  refine (blk_5 m c t _ _).trans ?_
  rw [V_correction, lanes_apply, correction_apply]

theorem input_mask (j : Fin 128) : (inputs m c t).x6 (ix4 0 (head n h) i (right j))
    = if j ≤ i then arg3 m c (ix4 2 (head n h) i (cur j)) else ⊥ :=
  (blk_6 m c t _ _ _).trans (V_mask m c _ _ _)

end Inputs

variable (hq : Finite (arg0 m c)) (hk : Finite (arg1 m c)) (hv : Finite (arg2 m c)) (hb : Finite (arg3 m c))
  (hg : Finite (arg4 m c)) (hl : Finite (arg5 m c))
variable (u : Fin 16) (n : Fin 4) (h : Fin 2) (i j : Fin 128) (e : Fin 64)

open Cert.ReferenceIdeal.Own in
include hq hk hb in
theorem weight_coe : (inputs m c t).weight u n h i j
    = ((P (arg0 m c) (arg1 m c) (arg3 m c) u (head n h) i j / D (arg0 m c) (arg1 m c) (arg3 m c) u (head n h) i : ℝ) : EReal) := by
  have hD := D_pos (arg0 m c) (arg1 m c) (arg3 m c) u (head n h) i
  unfold Blocks.weight
  rw [input_lse, input_mask, lse_coe hq hk hb]
  simp only [input_q, input_k, query_coe hq, entry_coe u (head n h) hk, ← EReal.coe_mul, ← coe_sum]
  unfold P
  split_ifs
  · rw [hb, ← EReal.coe_add, ← EReal.coe_sub, Ideal.exp_coe, sub_add_eq_sub_sub, Real.exp_sub, Real.exp_log hD]
    rfl
  · rw [EReal.add_bot, EReal.bot_sub, Ideal.exp_bot, zero_div, EReal.coe_zero]

open Cert.ReferenceIdeal.Own in
include hq hk hv hb hg hl in
theorem score_eq : (inputs m c t).score u n h i j
    = val_main_v74 (F := Ideal) (arg0 m c) (arg1 m c) (arg2 m c) (arg3 m c) (arg4 m c) (arg5 m c) (ix4 u (head n h) i j) := by
  unfold Blocks.score
  rw [gscores_coe hq hk hv hb hg hl, weight_coe m c t hq hk hb, input_c, saved_coe hl]
  simp only [input_g, input_v, output_coe hq hk hv hb, entry_coe u (head n h) hg, entry_coe u (head n h) hv,
    ← EReal.coe_mul, ← coe_sum, ← EReal.coe_sub]
  rfl

include hq hk hv hb hg hl in
theorem dq_eq : (inputs m c t).dq u n h i e
    = val_main_v86 (F := Ideal) (arg0 m c) (arg1 m c) (arg2 m c) (arg3 m c) (arg4 m c) (arg5 m c) (ix2 (tok i u) (entry (head n h) e)) := by
  unfold Blocks.dq
  rw [Cert.ReferenceIdeal.Own.gqueries_apply, mul_comm]
  simp only [score_eq m c t hq hk hv hb hg hl, input_k]

include hq hk hv hb hg hl in
theorem dk_eq : (inputs m c t).dk u n h j e
    = val_main_v83 (F := Ideal) (arg0 m c) (arg1 m c) (arg2 m c) (arg3 m c) (arg4 m c) (arg5 m c) (ix2 (tok j u) (entry (head n h) e)) := by
  unfold Blocks.dk
  rw [Cert.ReferenceIdeal.Own.gkeys_apply]
  simp only [score_eq m c t hq hk hv hb hg hl, input_q]

open Cert.ReferenceIdeal.Own in
include hq hk hb hg in
theorem dv_eq : (inputs m c t).dv u n h j e
    = val_main_v60 (F := Ideal) (arg0 m c) (arg1 m c) (arg3 m c) (arg4 m c) (ix2 (tok j u) (entry (head n h) e)) := by
  unfold Blocks.dv
  rw [gvalues_apply]
  refine Finset.sum_congr rfl fun i _ => ?_
  rw [weight_coe m c t hq hk hb, input_g, gout_coe hq hk hb hg, weights_coe hq hk hb, entry_coe u (head n h) hg,
    ← EReal.coe_mul, ← EReal.coe_mul, div_mul_eq_mul_div, div_mul_eq_mul_div, mul_comm]

include hq hk hv hb hg hl in
/-- The gradients of the queries, the keys and the values. -/
theorem grads_eq : (inputs m c t).grads
    = val_main_v100 (F := Ideal) (arg0 m c) (arg1 m c) (arg2 m c) (arg3 m c) (arg4 m c) (arg5 m c) := by
  funext x
  revert x
  refine forall_stack fun a u i n h e => ?_
  rw [Blocks.grads_apply, col_eq, row_eq, Cert.ReferenceIdeal.Own.stacked_apply, dq_eq m c t hq hk hv hb hg hl,
    dk_eq m c t hq hk hv hb hg hl, dv_eq m c t hq hk hb hg]

include hq hk hv hb hg hl in
/-- The bias's gradient. -/
theorem biasGrad_eq : (inputs m c t).biasGrad
    = val_main_v78 (F := Ideal) (arg0 m c) (arg1 m c) (arg2 m c) (arg3 m c) (arg4 m c) (arg5 m c) := by
  funext x
  revert x
  refine forall_bias (fun n h i j => ?_) fun h i j => ?_
  · refine Eq.trans ?_ (Cert.ReferenceIdeal.Own.gpad_right _ _ _ _ _ _ (head n h) i j).symm
    rw [Blocks.biasGrad_right, Cert.ReferenceIdeal.Own.gbias_apply]
    simp only [score_eq m c t hq hk hv hb hg hl]
  · exact (Blocks.biasGrad_left _ h i j).trans (Cert.ReferenceIdeal.Own.gpad_left _ _ _ _ _ _ h i j).symm

end Cert.KernelIdeal.Own

end
-- ==== Proof.Result.lean ====
module

public import proofs.«01_k».proof.Proof.Values

@[expose] public section

/-
  The kernel's run with its two results: the one grid point writes each whole array.
-/

set_option maxRecDepth 16384

noncomputable section

namespace Cert.KernelIdeal.Own

open Idealize.ShloMosaic Idealize.ShloMosaic.TcCoe Idealize.ShloMosaic.StableHlo Idealize.SL.Sem Cert.KernelIdeal Cert.KernelIdeal.Gen

variable (m : (ℓ : Loc nD τ sig) → Buf (Elt Ideal) ℓ) (ρ : Dev nD → PrngReg)

/-- The one grid point. -/
def point : Fin cfg0.N := ⟨0, by decide⟩

theorem result_7 (c : Dev nD) : (dats m 0 c).arrAt 7 cfg0.N = (inputs m c point).grads := by
  refine (dats m 0 c).arrAt_eq_of_after_last 7 point (by decide +kernel) _ fun j => ?_
  blk_simp
  rw [after_7]

theorem result_8 (c : Dev nD) : (dats m 0 c).arrAt 8 cfg0.N = (inputs m c point).biasGrad := by
  refine (dats m 0 c).arrAt_eq_of_after_last 8 point (by decide +kernel) _ fun j => ?_
  blk_simp
  rw [after_8]

/-- Every run ends with the gradients in the results and the arguments unchanged. -/
theorem run_results : θ_run defs (onTc (τ := τ) (main (F := Ideal))) ⟨m, fun _ => 0, ρ⟩ (fun r => ∀ c : Dev nD,
      r.2.mem ((c.tc : Thread nD τ).loc main_v80_0) = (inputs m c point).grads
      ∧ r.2.mem ((c.tc : Thread nD τ).loc main_v80_1) = (inputs m c point).biasGrad
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 7).trans (result_7 m c), ((h c).1 8).trans (result_8 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩)
    (run_main m ρ)

end Cert.KernelIdeal.Own

end
-- ==== Proof.Claims.lean ====
module

public import proofs.«01_k».proof.Defs
public import proofs.«01_k».proof.Proof.Result
public import proofs.«01_k».proof.Proof.Gen.ReferenceIdeal.Run
public import Idealize.ShloMosaic.Lib.Quiescent

@[expose] public section

/-
  The claims about the idealized programs.
-/

set_option maxRecDepth 16384

noncomputable section

namespace Cert.Proof

open Idealize.ShloMosaic Idealize.SL.Sem

/-- The side conditions of the precondition. -/
theorem pre_facts : Cert.Pre_finite.Facts where
  bcast_S_S2048x512 := by decide
  bcast_S_S3x8x128x256 := by decide
  bcast_S_S2048x8 := by decide

instance : Cert.Pre_finite.Facts := pre_facts

/-- A number whose absolute value is below infinity is real. -/
theorem real_of_abs_lt {x : EReal} (h : BitVec.ofBool (decide (max x (-x) < Ideal.ofBits .f32 0x7F800000#32)) = 1#1) :
    x = (x.toReal : EReal) := by
  have htop : Ideal.ofBits .f32 0x7F800000#32 = ⊤ := by simp [Ideal.ofBits, Ideal.ieee]
  rw [htop] at h
  have hlt : max x (-x) < ⊤ := by
    by_contra hn
    rw [decide_eq_false hn] at h
    exact absurd h (by decide)
  induction x using EReal.rec with
  | bot => simp at hlt
  | coe r => rfl
  | top => simp at hlt

/-- An array whose comparison with infinity is all ones is finite. -/
theorem finite_of_ones {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) :
    Cert.ReferenceIdeal.Own.Finite x :=
  fun i => real_of_abs_lt (congrFun h i)

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal_pre_finite := by
  intro m g m' g' hpre hargs
  refine ⟨fun c => (Cert.KernelIdeal.Own.inputs m c Cert.KernelIdeal.Own.point).grads,
    fun c => (Cert.KernelIdeal.Own.inputs m c Cert.KernelIdeal.Own.point).biasGrad,
    Cert.KernelIdeal.Own.run_results m g, ?_⟩
  refine (θ_run Cert.ReferenceIdeal.defs _ _).mono (fun r h c => ?_) (Cert.ReferenceIdeal.Value.run (F := Ideal) m' g')
  obtain ⟨p0, p1, p2, p3, p4, p5⟩ := hpre c
  have f0 := finite_of_ones _ _ p0
  have f1 := finite_of_ones _ _ p1
  have f2 := finite_of_ones _ _ p2
  have f3 := finite_of_ones _ _ p3
  have f4 := finite_of_ones _ _ p4
  have f5 := finite_of_ones _ _ p5
  obtain ⟨a0, a1, a2, a3, a4, a5⟩ := hargs c
  refine ⟨(h c).1.trans ?_, (h c).2.1.trans ?_, (h c).2.2⟩
  · refine (Cert.ReferenceIdeal.Read.val_main_v100_eq m' c).trans ?_
    rw [a0, a1, a2, a3, a4, a5]
    exact (Cert.KernelIdeal.Own.grads_eq m c _ f0 f1 f2 f3 f4 f5).symm
  · refine (Cert.ReferenceIdeal.Read.val_main_v78_eq m' c).trans ?_
    rw [a0, a1, a2, a3, a4, a5]
    exact (Cert.KernelIdeal.Own.biasGrad_eq m c _ f0 f1 f2 f3 f4 f5).symm

end Cert.Proof

end
-- ==== Proof.FfnStages.lean ====
module

public import proofs.«01_k».proof.Proof.Gen.Reference2Ideal.Read
public import Idealize.ShloMosaic.Lib.Pointwise

@[expose] public section

/-
  The feed-forward reference at an index: each weight's gradient is a sum over the tokens.
-/

set_option maxRecDepth 16384

noncomputable section

namespace Cert.Reference2Ideal.Own

open Idealize.ShloMosaic Idealize.ShloMosaic.TcCoe Idealize.ShloMosaic.StableHlo Cert.Reference2Ideal Cert.Reference2Ideal.Gen Cert.Reference2Ideal.Read

/-- Hidden unit `f` of shard `p`. -/
def unit (p : Fin 4) (f : Fin 704) : Fin 2816 := ⟨p.val * 704 + f.val, by omega⟩

/-- The tokens through a weight. -/
def proj (x : Vec Ideal S2048x1024 .f32) (w : Vec Ideal S1024x2816 .f32) (s : Fin 2048) (f : Fin 2816) : EReal :=
  ∑ d : Fin 1024, x (ix2 s d) * w (ix2 d f)

/-- The output's gradient, back through the last weight. -/
def back (w : Vec Ideal S2816x1024 .f32) (g : Vec Ideal S2048x1024 .f32) (s : Fin 2048) (f : Fin 2816) : EReal :=
  ∑ d : Fin 1024, g (ix2 s d) * w (ix2 f d)

/-- The logistic function. -/
def logi (g : EReal) : EReal := Ideal.div 1 (1 + Ideal.exp (-g))

variable (x : Vec Ideal S2048x1024 .f32) (wg wu : Vec Ideal S1024x2816 .f32) (wd : Vec Ideal S2816x1024 .f32)
  (df : Vec Ideal S2048x1024 .f32)

theorem proj_apply (s : Fin 2048) (f : Fin 2816) : val_main_v0 (F := Ideal) x wg (ix2 s f) = proj x wg s f := by
  pointwise [val_main_v0]
  rfl

theorem down_apply (p : Fin 4) (f : Fin 704) (d : Fin 1024) :
    val_main_v22 (F := Ideal) x wg wu df (ix4 p 0 f d)
      = ∑ s : Fin 2048, df (ix2 s d) * val_main_v3 (F := Ideal) x wg wu (ix2 s (unit p f)) := by
  pointwise [val_main_v22, val_main_v21, val_main_v6, val_main_v5]
  rfl

theorem up_apply (p : Fin 4) (f : Fin 704) (d : Fin 1024) :
    val_main_v20 (F := Ideal) x wg wd df (ix4 p 0 f d)
      = ∑ s : Fin 2048, val_main_v8 (F := Ideal) x wg wd df (ix2 s (unit p f)) * x (ix2 s d) := by
  pointwise [val_main_v20, val_main_v19, val_main_v16, val_main_v11, val_main_v10]
  rfl

theorem gate_apply (p : Fin 4) (f : Fin 704) (d : Fin 1024) :
    val_main_v18 (F := Ideal) x wg wu wd df (ix4 p 0 f d)
      = ∑ s : Fin 2048, val_main_v12 (F := Ideal) x wg wu wd df (ix2 s (unit p f)) * x (ix2 s d) := by
  pointwise [val_main_v18, val_main_v17, val_main_v15, val_main_v14, val_main_v13]
  rfl

theorem act_apply (s : Fin 2048) (f : Fin 2816) :
    val_main_v3 (F := Ideal) x wg wu (ix2 s f) = (proj x wg s f * logi (proj x wg s f)) * proj x wu s f := by
  pointwise [val_main_v3, val_main_v2, val_main_v1_0, val_main_v1_2, val_main_call0_v4, val_main_call0_cst_0, val_main_call0_v3, val_main_call0_v2, val_main_call0_cst, val_main_call0_v1, val_main_call0_v0, val_main_v0]
  rfl

theorem dup_apply (s : Fin 2048) (f : Fin 2816) :
    val_main_v8 (F := Ideal) x wg wd df (ix2 s f) = (proj x wg s f * logi (proj x wg s f)) * back wd df s f := by
  pointwise [val_main_v8, val_main_v7, val_main_v1_0, val_main_v1_2, val_main_call0_v4, val_main_call0_cst_0, val_main_call0_v3, val_main_call0_v2, val_main_call0_cst, val_main_call0_v1, val_main_call0_v0, val_main_v0]
  rfl

theorem dgate_apply (s : Fin 2048) (f : Fin 2816) :
    val_main_v12 (F := Ideal) x wg wu wd df (ix2 s f)
      = (back wd df s f * proj x wu s f) * logi (proj x wg s f)
        + (proj x wg s f * (back wd df s f * proj x wu s f)) * (logi (proj x wg s f) * (1 - logi (proj x wg s f))) := by
  pointwise [val_main_v12, val_main_call1_v2, val_main_call1_v1, val_main_call1_v0, val_main_v1_1, val_main_call0_v7, val_main_call0_v6, val_main_call0_cst_1, val_main_v9, val_main_v7, val_main_v2, val_main_v1_2, val_main_call0_v4, val_main_call0_cst_0, val_main_call0_v3, val_main_call0_v2, val_main_call0_cst, val_main_call0_v1, val_main_call0_v0, val_main_v0]
  rfl

end Cert.Reference2Ideal.Own

end
-- ==== Proof.FfnHost.lean ====
module

public import proofs.«01_k».proof.Proof.FfnStages
public import proofs.«01_k».proof.Proof.Gen.Kernel2Ideal.Frame
public import Idealize.ShloMosaic.Lib.StableHlo.ReadAt
public import Idealize.ShloMosaic.Lib.Pipeline.ValueKit

@[expose] public section

/-
  What the feed-forward launch finds in its five inputs, at an index.
-/

set_option maxRecDepth 16384

noncomputable section

namespace Cert.Kernel2Ideal.Own

open Idealize.ShloMosaic Idealize.ShloMosaic.TcCoe Idealize.ShloMosaic.StableHlo Cert.Kernel2Ideal Cert.Kernel2Ideal.Gen
open Cert.Reference2Ideal.Own (unit proj back logi)

variable (m : (ℓ : Loc nD τ sig) → Buf (Elt Ideal) ℓ) (c : Dev nD) (t : Fin cfg0.N)

abbrev arg0 : Vec Ideal S2048x1024 .f32 := m ((c.tc : Thread nD τ).loc main_arg0)
abbrev arg1 : Vec Ideal S1024x2816 .f32 := m ((c.tc : Thread nD τ).loc main_arg1)
abbrev arg2 : Vec Ideal S1024x2816 .f32 := m ((c.tc : Thread nD τ).loc main_arg2)
abbrev arg3 : Vec Ideal S2816x1024 .f32 := m ((c.tc : Thread nD τ).loc main_arg3)
abbrev arg4 : Vec Ideal S2048x1024 .f32 := m ((c.tc : Thread nD τ).loc main_arg4)

/-- The launch's five inputs. -/
abbrev inTokens : Vec Ideal S2048x1024 .bf16 := V m c main_v13
abbrev inGate : Vec Ideal S4x2048x704 .bf16 := V m c main_v24
abbrev inUp : Vec Ideal S4x2048x704 .bf16 := V m c main_v29
abbrev inAct : Vec Ideal S4x2048x704 .bf16 := V m c main_v34
abbrev inGrad : Vec Ideal S2048x1024 .bf16 := V m c main_v35

theorem V_tokens (s : Fin 2048) (d : Fin 1024) : V m c main_v13 (ix2 s d) = arg0 m c (ix2 s d) := by
  after_reads_at

theorem V_grad (s : Fin 2048) (d : Fin 1024) : V m c main_v35 (ix2 s d) = arg4 m c (ix2 s d) := by
  after_reads_at

theorem V_act (p : Fin 4) (s : Fin 2048) (f : Fin 704) :
    V m c main_v34 (ix3 p s f) = (proj (arg0 m c) (arg1 m c) s (unit p f) * logi (proj (arg0 m c) (arg1 m c) s (unit p f)))
      * proj (arg0 m c) (arg2 m c) s (unit p f) := by
  after_reads_at
  rfl

theorem V_dup (p : Fin 4) (s : Fin 2048) (f : Fin 704) :
    V m c main_v29 (ix3 p s f) = back (arg3 m c) (arg4 m c) s (unit p f)
      * (proj (arg0 m c) (arg1 m c) s (unit p f) * logi (proj (arg0 m c) (arg1 m c) s (unit p f))) := by
  after_reads_at
  rfl

theorem V_dgate (p : Fin 4) (s : Fin 2048) (f : Fin 704) :
    V m c main_v24 (ix3 p s f) = (back (arg3 m c) (arg4 m c) s (unit p f) * proj (arg0 m c) (arg2 m c) s (unit p f))
      * (logi (proj (arg0 m c) (arg1 m c) s (unit p f))
        * (1 + proj (arg0 m c) (arg1 m c) s (unit p f) * (1 - logi (proj (arg0 m c) (arg1 m c) s (unit p f))))) := by
  after_reads_at
  rfl

theorem index_0 : ∀ t : Fin cfg0.N, win0_0.index t = ![t.val % 2, 0] := by decide +kernel
theorem index_1 : ∀ t : Fin cfg0.N, win0_1.index t = ![t.val / 2, t.val % 2, 0] := by decide +kernel
theorem index_2 : ∀ t : Fin cfg0.N, win0_2.index t = ![t.val / 2, t.val % 2, 0] := by decide +kernel
theorem index_3 : ∀ t : Fin cfg0.N, win0_3.index t = ![t.val / 2, t.val % 2, 0] := by decide +kernel
theorem index_4 : ∀ t : Fin cfg0.N, win0_4.index t = ![t.val % 2, 0] := by decide +kernel

/-- The shard a point of the grid works on. -/
def shard : Fin 4 := ⟨t.val / 2, by have := t.isLt; have : cfg0.N = 8 := N_0; omega⟩

/-- The token of row `s` of a point's half of the tokens. -/
def token (s : Fin 1024) : Fin 2048 := ⟨t.val % 2 * 1024 + s.val, by omega⟩

theorem blk_0 (s d : Fin 1024) : iblk m c 0 t (ix2 s d) = V m c main_v13 (ix2 (token t s) d) := by
  unfold iblk
  blk_ext [index_0 t, shard, token]

theorem blk_1 (s : Fin 1024) (f : Fin 704) : iblk m c 1 t (ix3 0 s f) = V m c main_v24 (ix3 (shard t) (token t s) f) := by
  unfold iblk
  blk_ext [index_1 t, shard, token]

theorem blk_2 (s : Fin 1024) (f : Fin 704) : iblk m c 2 t (ix3 0 s f) = V m c main_v29 (ix3 (shard t) (token t s) f) := by
  unfold iblk
  blk_ext [index_2 t, shard, token]

theorem blk_3 (s : Fin 1024) (f : Fin 704) : iblk m c 3 t (ix3 0 s f) = V m c main_v34 (ix3 (shard t) (token t s) f) := by
  unfold iblk
  blk_ext [index_3 t, shard, token]

theorem blk_4 (s d : Fin 1024) : iblk m c 4 t (ix2 s d) = V m c main_v35 (ix2 (token t s) d) := by
  unfold iblk
  blk_ext [index_4 t, shard, token]

end Cert.Kernel2Ideal.Own

end
-- ==== Proof.FfnValues.lean ====
module

public import proofs.«01_k».proof.Proof.FfnHost
public import proofs.«01_k».proof.Proof.Gen.Kernel2Ideal.Value
public import Idealize.ShloMosaic.Lib.Pointwise
public import Idealize.ShloMosaic.Lib.Pipeline.ReadBack

@[expose] public section

/-
  What the feed-forward launch leaves in its outputs: the first half of a shard's tokens starts the three sums from zero,
  the second half ends them and stores them.
-/

set_option maxRecDepth 16384

noncomputable section

namespace Cert.Kernel2Ideal.Own

open Idealize.ShloMosaic Idealize.ShloMosaic.TcCoe Idealize.ShloMosaic.StableHlo Cert.Kernel2Ideal Cert.Kernel2Ideal.Gen

variable (m : (ℓ : Loc nD τ sig) → Buf (Elt Ideal) ℓ) (c : Dev nD)

theorem zero_5 (f : Fin 704) (d : Fin 1024) : k0_pay5 (F := Ideal) (ix2 f d) = 0 := by
  pointwise [k0_pay5]

theorem zero_6 (f : Fin 704) (d : Fin 1024) : k0_pay6 (F := Ideal) (ix2 f d) = 0 := by
  pointwise [k0_pay6]

theorem zero_7 (f : Fin 704) (d : Fin 1024) : k0_pay7 (F := Ideal) (ix2 f d) = 0 := by
  pointwise [k0_pay7]

theorem gate_step (h : Vec Ideal S1024x1024 .bf16) (a : Vec Ideal S704x1024 .f32) (g : Vec Ideal S1x1024x704 .bf16) (f : Fin 704)
    (d : Fin 1024) : k0_pay9 h a g (ix2 f d) = a (ix2 f d) + ∑ s : Fin 1024, g (ix3 0 s f) * h (ix2 s d) := by
  pointwise [k0_pay9, k0_pay8]

theorem up_step (h : Vec Ideal S1024x1024 .bf16) (a : Vec Ideal S704x1024 .f32) (g : Vec Ideal S1x1024x704 .bf16) (f : Fin 704)
    (d : Fin 1024) : k0_pay10 h a g (ix2 f d) = a (ix2 f d) + ∑ s : Fin 1024, g (ix3 0 s f) * h (ix2 s d) := by
  pointwise [k0_pay10, k0_pay8]

theorem down_step (h : Vec Ideal S1024x1024 .bf16) (a : Vec Ideal S704x1024 .f32) (g : Vec Ideal S1x1024x704 .bf16) (f : Fin 704)
    (d : Fin 1024) : k0_pay1 a (k0_pay11 g h) (ix2 f d) = a (ix2 f d) + ∑ s : Fin 1024, g (ix3 0 s f) * h (ix2 s d) := by
  pointwise [k0_pay1, k0_pay11]

theorem store_2 (a : Vec Ideal S704x1024 .f32) (f : Fin 704) (d : Fin 1024) : k0_pay2 a (ix4 0 0 f d) = a (ix2 f d) := by
  pointwise [k0_pay2]

theorem store_3 (a : Vec Ideal S704x1024 .f32) (f : Fin 704) (d : Fin 1024) : k0_pay3 a (ix4 0 0 f d) = a (ix2 f d) := by
  pointwise [k0_pay3]

theorem store_4 (a : Vec Ideal S704x1024 .f32) (f : Fin 704) (d : Fin 1024) : k0_pay4 a (ix4 0 0 f d) = a (ix2 f d) := by
  pointwise [k0_pay4]

section Points

variable (t : Fin cfg0.N)

/-- The point before. -/
def prev : Fin cfg0.N := ⟨t.val - 1, by have := t.isLt; omega⟩

theorem start (h0 : t.val % 2 = 0) :
    (outsAt0 m c t.val t.isLt).2.2.2 = (k0_pay9 (iblk m c 0 t) (k0_pay5 (F := Ideal)) (iblk m c 1 t),
      k0_pay10 (iblk m c 0 t) (k0_pay6 (F := Ideal)) (iblk m c 2 t), k0_pay1 (k0_pay7 (F := Ideal)) (k0_pay11 (iblk m c 3 t) (iblk m c 4 t))) := by
  rw [outsAt0_A m c t h0 (by omega)]
  frame_out

theorem finish (h1 : t.val % 2 = 1) :
    outsAt0 m c t.val t.isLt = (k0_pay2 (k0_pay9 (iblk m c 0 t) (outsAt0 m c (prev t).val (prev t).isLt).2.2.2.1 (iblk m c 1 t)),
      k0_pay3 (k0_pay10 (iblk m c 0 t) (outsAt0 m c (prev t).val (prev t).isLt).2.2.2.2.1 (iblk m c 2 t)),
      k0_pay4 (k0_pay1 (outsAt0 m c (prev t).val (prev t).isLt).2.2.2.2.2 (k0_pay11 (iblk m c 3 t) (iblk m c 4 t))),
      k0_pay9 (iblk m c 0 t) (outsAt0 m c (prev t).val (prev t).isLt).2.2.2.1 (iblk m c 1 t),
      k0_pay10 (iblk m c 0 t) (outsAt0 m c (prev t).val (prev t).isLt).2.2.2.2.1 (iblk m c 2 t),
      k0_pay1 (outsAt0 m c (prev t).val (prev t).isLt).2.2.2.2.2 (k0_pay11 (iblk m c 3 t) (iblk m c 4 t))) := by
  rw [outsAt0_B m c t (by omega) h1]
  frame_out
  simp only [read_unread_whole]
  rfl

theorem shard_prev (h1 : t.val % 2 = 1) : shard (prev t) = shard t :=
  Fin.ext (by show (t.val - 1) / 2 = t.val / 2; omega)

/-- The two halves of the tokens are the tokens. -/
theorem halves (h1 : t.val % 2 = 1) (F : Fin 2048 → EReal) :
    ∑ s : Fin 1024, F (token (prev t) s) + ∑ s : Fin 1024, F (token t s) = ∑ s, F s := by
  refine Eq.symm ((Fin.sum_univ_add (a := 1024) (b := 1024) F).trans ?_)
  refine congrArg₂ (· + ·) (Finset.sum_congr rfl fun s _ => congrArg F (Fin.ext ?_)) (Finset.sum_congr rfl fun s _ => congrArg F (Fin.ext ?_))
  · show s.val = (t.val - 1) % 2 * 1024 + s.val
    omega
  · show 1024 + s.val = t.val % 2 * 1024 + s.val
    omega

variable (h1 : t.val % 2 = 1) (f : Fin 704) (d : Fin 1024)
include h1

theorem prev_even : (prev t).val % 2 = 0 := by
  show (t.val - 1) % 2 = 0
  omega

theorem gate_sum : (outsAt0 m c t.val t.isLt).1 (ix4 0 0 f d)
    = ∑ s : Fin 2048, inGate m c (ix3 (shard t) s f) * inTokens m c (ix2 s d) := by
  rw [finish m c t h1, start m c (prev t) (prev_even t h1)]
  refine (store_2 _ f d).trans ?_
  rw [gate_step]
  dsimp only
  rw [gate_step, zero_5, zero_add]
  simp only [blk_0, blk_1, shard_prev t h1]
  exact halves t h1 fun s => inGate m c (ix3 (shard t) s f) * inTokens m c (ix2 s d)

theorem up_sum : (outsAt0 m c t.val t.isLt).2.1 (ix4 0 0 f d)
    = ∑ s : Fin 2048, inUp m c (ix3 (shard t) s f) * inTokens m c (ix2 s d) := by
  rw [finish m c t h1, start m c (prev t) (prev_even t h1)]
  refine (store_3 _ f d).trans ?_
  rw [up_step]
  dsimp only
  rw [up_step, zero_6, zero_add]
  simp only [blk_0, blk_2, shard_prev t h1]
  exact halves t h1 fun s => inUp m c (ix3 (shard t) s f) * inTokens m c (ix2 s d)

theorem down_sum : (outsAt0 m c t.val t.isLt).2.2.1 (ix4 0 0 f d)
    = ∑ s : Fin 2048, inAct m c (ix3 (shard t) s f) * inGrad m c (ix2 s d) := by
  rw [finish m c t h1, start m c (prev t) (prev_even t h1)]
  refine (store_4 _ f d).trans ?_
  rw [down_step]
  dsimp only
  rw [down_step, zero_7, zero_add]
  simp only [blk_3, blk_4, shard_prev t h1]
  exact halves t h1 fun s => inAct m c (ix3 (shard t) s f) * inGrad m c (ix2 s d)

end Points

end Cert.Kernel2Ideal.Own

end
-- ==== Proof.FfnResult.lean ====
module

public import proofs.«01_k».proof.Proof.FfnValues
public import proofs.«01_k».proof.Proof.Reals

@[expose] public section

/-
  The feed-forward launch's three results are the reference's: the second half of a shard's tokens writes the shard's
  block of each.
-/

set_option maxRecDepth 16384

noncomputable section

namespace Cert.Reference2Ideal.Own

open Idealize.ShloMosaic Cert.Reference2Ideal
open Cert.ReferenceIdeal.Own (coe_sum div_coe_coe Finite)

theorem proj_real {x : Vec Ideal S2048x1024 .f32} {w : Vec Ideal S1024x2816 .f32} (hx : Finite x) (hw : Finite w) (s : Fin 2048)
    (f : Fin 2816) : ∃ r : ℝ, proj x w s f = r :=
  ⟨∑ d : Fin 1024, (x (ix2 s d)).toReal * (w (ix2 d f)).toReal, by
    rw [coe_sum]
    exact Finset.sum_congr rfl fun d _ => by rw [EReal.coe_mul, ← hx, ← hw]⟩

theorem back_real {w : Vec Ideal S2816x1024 .f32} {g : Vec Ideal S2048x1024 .f32} (hw : Finite w) (hg : Finite g) (s : Fin 2048)
    (f : Fin 2816) : ∃ r : ℝ, back w g s f = r :=
  ⟨∑ d : Fin 1024, (g (ix2 s d)).toReal * (w (ix2 f d)).toReal, by
    rw [coe_sum]
    exact Finset.sum_congr rfl fun d _ => by rw [EReal.coe_mul, ← hg, ← hw]⟩

theorem logi_coe (g : ℝ) : logi g = ((1 / (1 + Real.exp (-g)) : ℝ) : EReal) := by
  unfold logi
  rw [← EReal.coe_neg, Ideal.exp_coe, ← EReal.coe_one, ← EReal.coe_add, div_coe_coe 1 (by positivity)]

theorem logi_top : logi ⊤ = 1 := by
  unfold logi
  rw [EReal.neg_top, Ideal.exp_bot, add_zero, ← EReal.coe_one, div_coe_coe 1 one_ne_zero, div_one]

theorem logi_bot : logi ⊥ = 0 := by
  have e : Ideal.exp ⊤ = ⊤ := rfl
  unfold logi
  rw [EReal.neg_bot, e, show (1 : EReal) + ⊤ = ⊤ from EReal.coe_add_top 1]
  simp [Ideal.div]

/-- The two ways of writing the gate's derivative agree wherever what it multiplies is a real number. -/
theorem silu_derivative (g : EReal) {a : EReal} (ha : ∃ r : ℝ, a = r) :
    a * logi g + (g * a) * (logi g * (1 - logi g)) = a * (logi g * (1 + g * (1 - logi g))) := by
  obtain ⟨r, rfl⟩ := ha
  induction g with
  | bot => simp [logi_bot]
  | top =>
    have e : (1 : EReal) - 1 = 0 := by rw [← EReal.coe_one, ← EReal.coe_sub, sub_self, EReal.coe_zero]
    rw [logi_top, e, mul_zero, mul_zero, mul_zero, add_zero, add_zero, one_mul]
  | coe g =>
    rw [logi_coe, ← EReal.coe_one]
    norm_cast
    ring

end Cert.Reference2Ideal.Own

namespace Cert.Kernel2Ideal.Own

open Idealize.ShloMosaic Idealize.ShloMosaic.TcCoe Idealize.ShloMosaic.StableHlo Cert.Kernel2Ideal Cert.Kernel2Ideal.Gen
open Cert.Reference2Ideal.Read (val_main_v18 val_main_v20 val_main_v22)
open Cert.Reference2Ideal.Own (unit proj back logi)
open Cert.ReferenceIdeal.Own (Finite)

variable (m : (ℓ : Loc nD τ sig) → Buf (Elt Ideal) ℓ) (c : Dev nD)

theorem gate_eq (h0 : Finite (arg0 m c)) (h2 : Finite (arg2 m c)) (h3 : Finite (arg3 m c)) (h4 : Finite (arg4 m c)) (p : Fin 4)
    (f : Fin 704) (d : Fin 1024) : ∑ s : Fin 2048, inGate m c (ix3 p s f) * inTokens m c (ix2 s d)
      = val_main_v18 (F := Ideal) (arg0 m c) (arg1 m c) (arg2 m c) (arg3 m c) (arg4 m c) (ix4 p 0 f d) := by
  rw [Cert.Reference2Ideal.Own.gate_apply]
  refine Finset.sum_congr rfl fun s _ => ?_
  refine congrArg₂ (fun a b : EReal => a * b) ((V_dgate m c p s f).trans ?_) (V_tokens m c s d)
  rw [Cert.Reference2Ideal.Own.dgate_apply, Cert.Reference2Ideal.Own.silu_derivative]
  obtain ⟨a, ha⟩ := Cert.Reference2Ideal.Own.back_real h3 h4 s (unit p f)
  obtain ⟨b, hb⟩ := Cert.Reference2Ideal.Own.proj_real h0 h2 s (unit p f)
  exact ⟨a * b, by rw [ha, hb, EReal.coe_mul]⟩

theorem up_eq (p : Fin 4) (f : Fin 704) (d : Fin 1024) : ∑ s : Fin 2048, inUp m c (ix3 p s f) * inTokens m c (ix2 s d)
      = val_main_v20 (F := Ideal) (arg0 m c) (arg1 m c) (arg3 m c) (arg4 m c) (ix4 p 0 f d) := by
  rw [Cert.Reference2Ideal.Own.up_apply]
  refine Finset.sum_congr rfl fun s _ => ?_
  refine congrArg₂ (fun a b : EReal => a * b) ((V_dup m c p s f).trans ?_) (V_tokens m c s d)
  rw [Cert.Reference2Ideal.Own.dup_apply, mul_comm]

theorem down_eq (p : Fin 4) (f : Fin 704) (d : Fin 1024) : ∑ s : Fin 2048, inAct m c (ix3 p s f) * inGrad m c (ix2 s d)
      = val_main_v22 (F := Ideal) (arg0 m c) (arg1 m c) (arg2 m c) (arg4 m c) (ix4 p 0 f d) := by
  rw [Cert.Reference2Ideal.Own.down_apply]
  refine Finset.sum_congr rfl fun s _ => ?_
  refine (congrArg₂ (fun a b : EReal => a * b) ((V_act m c p s f).trans ?_) (V_grad m c s d)).trans (mul_comm _ _)
  rw [Cert.Reference2Ideal.Own.act_apply]

theorem odd_5 : ∀ t : Fin cfg0.N, (cfg0.win 5).flush t = true → t.val % 2 = 1 := by decide +kernel
theorem odd_6 : ∀ t : Fin cfg0.N, (cfg0.win 6).flush t = true → t.val % 2 = 1 := by decide +kernel
theorem odd_7 : ∀ t : Fin cfg0.N, (cfg0.win 7).flush t = true → t.val % 2 = 1 := by decide +kernel
theorem index_5 : ∀ t : Fin cfg0.N, win0_5.index t = ![t.val / 2, 0, 0, 0] := by decide +kernel
theorem index_6 : ∀ t : Fin cfg0.N, win0_6.index t = ![t.val / 2, 0, 0, 0] := by decide +kernel
theorem index_7 : ∀ t : Fin cfg0.N, win0_7.index t = ![t.val / 2, 0, 0, 0] := by decide +kernel

theorem block_index (y : S1x1x704x1024.Idx) : y = ix4 0 0 (y 2) (y 3) := by
  funext a
  fin_cases a
  · exact Subsingleton.elim (α := Fin 1) _ _
  · exact Subsingleton.elim (α := Fin 1) _ _
  · rfl
  · rfl

theorem result_5 (h0 : Finite (arg0 m c)) (h2 : Finite (arg2 m c)) (h3 : Finite (arg3 m c)) (h4 : Finite (arg4 m c)) :
    (dats m 0 c).arrAt 5 cfg0.N = val_main_v18 (F := Ideal) (arg0 m c) (arg1 m c) (arg2 m c) (arg3 m c) (arg4 m c) := by
  refine (dats m 0 c).arrAt_eq_of_covers 5 _ (by decide +kernel) fun t hf y => ?_
  blk_simp
  rw [after0_5]
  refine (congrArg _ (block_index y)).trans ((gate_sum m c t (odd_5 t hf) (y 2) (y 3)).trans ((gate_eq m c h0 h2 h3 h4 _ _ _).trans (congrArg _ ?_)))
  blk_ext [index_5 t, shard]

theorem result_6 : (dats m 0 c).arrAt 6 cfg0.N = val_main_v20 (F := Ideal) (arg0 m c) (arg1 m c) (arg3 m c) (arg4 m c) := by
  refine (dats m 0 c).arrAt_eq_of_covers 6 _ (by decide +kernel) fun t hf y => ?_
  blk_simp
  rw [after0_6]
  refine (congrArg _ (block_index y)).trans ((up_sum m c t (odd_6 t hf) (y 2) (y 3)).trans ((up_eq m c _ _ _).trans (congrArg _ ?_)))
  blk_ext [index_6 t, shard]

theorem result_7 : (dats m 0 c).arrAt 7 cfg0.N = val_main_v22 (F := Ideal) (arg0 m c) (arg1 m c) (arg2 m c) (arg4 m c) := by
  refine (dats m 0 c).arrAt_eq_of_covers 7 _ (by decide +kernel) fun t hf y => ?_
  blk_simp
  rw [after0_7]
  refine (congrArg _ (block_index y)).trans ((down_sum m c t (odd_7 t hf) (y 2) (y 3)).trans ((down_eq m c _ _ _).trans (congrArg _ ?_)))
  blk_ext [index_7 t, shard]

end Cert.Kernel2Ideal.Own

end
-- ==== Proof.FfnClaims.lean ====
module

public import proofs.«01_k».proof.Proof.Claims
public import proofs.«01_k».proof.Proof.FfnResult
public import proofs.«01_k».proof.Proof.Gen.Reference2Ideal.Run

@[expose] public section

/-
  The claims about the idealized programs of the feed-forward network's weight gradients.
-/

set_option maxRecDepth 16384

noncomputable section

namespace Cert.Proof

open Idealize.ShloMosaic Idealize.SL.Sem

/-- The side conditions of the precondition. -/
theorem ffn_pre_facts : Cert.Pre_finite2.Facts where
  bcast_S_S2048x1024 := by decide
  bcast_S_S1024x2816 := by decide
  bcast_S_S2816x1024 := by decide

instance : Cert.Pre_finite2.Facts := ffn_pre_facts

theorem ffn_frame_ri : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem ffn_algebraic : Cert.algebraic_Kernel2Ideal_Reference2Ideal_pre_finite2 := by
  intro m g m' g' hpre hargs
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    Cert.Kernel2Ideal.Value.run_blocks m g, ?_⟩
  refine (θ_run Cert.Reference2Ideal.defs _ _).mono (fun r h c => ?_) (Cert.Reference2Ideal.Value.run (F := Ideal) m' g')
  obtain ⟨p0, p2, p3, p4⟩ := hpre c
  have f0 := finite_of_ones _ _ p0
  have f2 := finite_of_ones _ _ p2
  have f3 := finite_of_ones _ _ p3
  have f4 := finite_of_ones _ _ p4
  obtain ⟨a0, a1, a2, a3, a4⟩ := hargs c
  refine ⟨(h c).1.trans ?_, (h c).2.1.trans ?_, (h c).2.2.1.trans ?_, (h c).2.2.2⟩
  · refine (Cert.Reference2Ideal.Read.val_main_v18_eq _ _ _ _ _).trans ?_
    rw [a0, a1, a2, a3, a4]
    exact (Cert.Kernel2Ideal.Own.result_5 m c f0 f2 f3 f4).symm
  · refine (Cert.Reference2Ideal.Read.val_main_v20_eq _ _ _ _).trans ?_
    rw [a0, a1, a3, a4]
    exact (Cert.Kernel2Ideal.Own.result_6 m c).symm
  · refine (Cert.Reference2Ideal.Read.val_main_v22_eq _ _ _ _).trans ?_
    rw [a0, a1, a2, a4]
    exact (Cert.Kernel2Ideal.Own.result_7 m c).symm

end Cert.Proof

end
-- ==== Proof.FwdFrame.lean ====
module

public import proofs.«01_k».proof.Proof.Gen.Kernel3.Frame
public import proofs.«01_k».proof.Proof.Gen.Kernel3.Skeleton
public import Idealize.ShloMosaic.Lib.Pointwise
public import Idealize.ShloMosaic.Lib.Claim

@[expose] public section

/-
  The frame of the feed-forward forward launch as printed.  The claim names nothing of what the six results hold, so their
  windows are forgotten: the body is only shown to run, from any contents to any contents.
-/

set_option maxRecDepth 16384

noncomputable section

namespace Cert.Kernel3.Own

open Idealize.ShloMosaic Idealize.ShloMosaic.TcCoe Idealize.ShloMosaic.Tactic Cert.Kernel3 Cert.Kernel3.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body runs, leaving its inputs as they were. -/
theorem body_runs (c : Dev nD) (i : grid0.Coords) (arg2 : Memref sig .tc .vmem S1024x1024 .f32) (harg2 : arg2.IsWhole) (arg3 : Memref sig .tc .vmem S3x1024 .f32) (harg3 : arg3.IsWhole) (arg4 : Memref sig .tc .vmem S1x1x704x1024 .bf16) (harg4 : arg4.IsWhole) (arg5 : Memref sig .tc .vmem S1x1x704x1024 .bf16) (harg5 : arg5.IsWhole) (arg6 : Memref sig .tc .vmem S1x1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1x1024x704 .bf16) (harg11 : arg11.IsWhole) (arg12 : Memref sig .tc .vmem S1x1024x704 .bf16) (harg12 : arg12.IsWhole) (arg13 : Memref sig .tc .vmem S1x1024x704 .bf16) (harg13 : arg13.IsWhole) (arg14 : Memref sig .tc .vmem S1024x1024 .bf16) (harg14 : arg14.IsWhole)
    (x0 : Vec F S1024x1024 .f32) (x1 : Vec F S3x1024 .f32) (x2 : Vec F S1x1x704x1024 .bf16) (x3 : Vec F S1x1x704x1024 .bf16) (x4 : Vec F S1x1x704x1024 .bf16) (x5 : Vec F S1x1024 .f32) (x6 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  by_cases hc0 : k0_cond1 i = 1#1 <;> by_cases hc1 : k0_cond2 i = 1#1
  all_goals
    sl_exec (disch := first | sl_exact hc0 | sl_exact hc1)
    sl_step
    iapply Hk
    isplitl [H0]; · iexists _; isplitr; swap; (· iexact H0); ipureintro; exact harg2.read_unread _
    isplitl [H1]; · iexists _; isplitr; swap; (· iexact H1); ipureintro; exact harg3.read_unread _
    isplitl [H2]; · iexists _; isplitr; swap; (· iexact H2); ipureintro; exact harg4.read_unread _
    isplitl [H3]; · iexists _; isplitr; swap; (· iexact H3); ipureintro; exact harg5.read_unread _
    isplitl [H4]; · iexists _; isplitr; swap; (· iexact H4); ipureintro; exact harg6.read_unread _
    isplitl [H5]; · iexists _; isplitr; swap; (· iexact H5); ipureintro; exact harg7.read_unread _
    isplitl [H6]; · iexists _; isplitr; swap; (· iexact H6); ipureintro; exact harg8.read_unread _
    isplitl [H7]; · iexists _, _; isplitr; swap; (· iexact H7); ipureintro; rfl
    isplitl [H8]; · iexists _, _; isplitr; swap; (· iexact H8); ipureintro; rfl
    isplitl [H9]; · iexists _, _; isplitr; swap; (· iexact H9); ipureintro; rfl
    isplitl [H10]; · iexists _, _; isplitr; swap; (· iexact H10); ipureintro; rfl
    isplitl [H11]; · iexists _, _; isplitr; swap; (· iexact H11); ipureintro; rfl
    iexists _, _; isplitr; swap; (· iexact H12); ipureintro; rfl

abbrev ms_0 (t : Fin cfg0.N) : Memref sig .tc .vmem S1024x1024 .f32 := win0_0.stage (cfg0.slots t 0)
abbrev ms_1 (t : Fin cfg0.N) : Memref sig .tc .vmem S3x1024 .f32 := win0_1.stage (cfg0.slots t 1)
abbrev ms_2 (t : Fin cfg0.N) : Memref sig .tc .vmem S1x1x704x1024 .bf16 := win0_2.stage (cfg0.slots t 2)
abbrev ms_3 (t : Fin cfg0.N) : Memref sig .tc .vmem S1x1x704x1024 .bf16 := win0_3.stage (cfg0.slots t 3)
abbrev ms_4 (t : Fin cfg0.N) : Memref sig .tc .vmem S1x1x704x1024 .bf16 := win0_4.stage (cfg0.slots t 4)
abbrev ms_5 (t : Fin cfg0.N) : Memref sig .tc .vmem S1x1024 .f32 := win0_5.stage (cfg0.slots t 5)
abbrev ms_6 (t : Fin cfg0.N) : Memref sig .tc .vmem S1x1024 .f32 := win0_6.stage (cfg0.slots t 6)
abbrev ms_7 (t : Fin cfg0.N) : Memref sig .tc .vmem S1024x1024 .f32 := win0_7.stage (cfg0.slots t 7)
abbrev ms_8 (t : Fin cfg0.N) : Memref sig .tc .vmem S1024x1024 .f32 := win0_8.stage (cfg0.slots t 8)
abbrev ms_9 (t : Fin cfg0.N) : Memref sig .tc .vmem S1x1024x704 .bf16 := win0_9.stage (cfg0.slots t 9)
abbrev ms_10 (t : Fin cfg0.N) : Memref sig .tc .vmem S1x1024x704 .bf16 := win0_10.stage (cfg0.slots t 10)
abbrev ms_11 (t : Fin cfg0.N) : Memref sig .tc .vmem S1x1024x704 .bf16 := win0_11.stage (cfg0.slots t 11)
abbrev ms_12 (t : Fin cfg0.N) : Memref sig .tc .vmem S1024x1024 .bf16 := win0_12.stage (cfg0.slots t 12)

/-- The windows of the results. -/
def results : Fin cfg0.W → Bool := fun w => decide (7 ≤ w.val)

/-- The launch's proof data: each input's block left as it was; of the results nothing is read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (ms_7 t).view.read (Elt F) (ms_7 t).view.junk
    | ⟨8, _⟩ => (ms_8 t).view.read (Elt F) (ms_8 t).view.junk
    | ⟨9, _⟩ => (ms_9 t).view.read (Elt F) (ms_9 t).view.junk
    | ⟨10, _⟩ => (ms_10 t).view.read (Elt F) (ms_10 t).view.junk
    | ⟨11, _⟩ => (ms_11 t).view.read (Elt F) (ms_11 t).view.junk
    | ⟨12, _⟩ => (ms_12 t).view.read (Elt F) (ms_12 t).view.junk
  Φ _ := Pipeline.ΦA spec0 c
  q _ := fullShare
  owed _ := 0

/-- The arrays are what the host code before the launch left. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ X, owns (c : Thread nD τ) (ms_7 t) fullShare X)
    ∗ (∃ X, owns (c : Thread nD τ) (ms_8 t) fullShare X)
    ∗ (∃ X, owns (c : Thread nD τ) (ms_9 t) fullShare X)
    ∗ (∃ X, owns (c : Thread nD τ) (ms_10 t) fullShare X)
    ∗ (∃ X, owns (c : Thread nD τ) (ms_11 t) fullShare X)
    ∗ (∃ X, owns (c : Thread nD τ) (ms_12 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ (∃ X, owns (c : Thread nD τ) (ms_7 t) fullShare X)
    ∗ (∃ X, owns (c : Thread nD τ) (ms_8 t) fullShare X)
    ∗ (∃ X, owns (c : Thread nD τ) (ms_9 t) fullShare X)
    ∗ (∃ X, owns (c : Thread nD τ) (ms_10 t) fullShare X)
    ∗ (∃ X, owns (c : Thread nD τ) (ms_11 t) fullShare X)
    ∗ (∃ X, owns (c : Thread nD τ) (ms_12 t) fullShare X))

set_option maxHeartbeats 800000 in
/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HP, Ho, ⟨%d0, H0⟩, ⟨%d1, H1⟩, ⟨%d2, H2⟩, ⟨%d3, H3⟩, ⟨%d4, H4⟩, ⟨%d5, H5⟩, ⟨%d6, H6⟩, H7, H8, H9, H10, H11, H12⟩
  iapply (body_runs c (grid0.coords t) _ _ _ _ _ _ _ _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body the table names is the body at the point. -/
theorem defs₀_row (t : Fin cfg0.N) :
    defs₀ (F := F) .tc cfg0.body (cfg0.bodyArgs t (cfg0.slots t)) = bodyAt0 t := by
  unfold defs₀; rw [Defs.onTc_tc]

/-- The launch's obligation for its body. -/
theorem body_obligation (c : Dev nD) : BodyObligation (dats m 0 c) (defs₀ (F := F)) Variants.none () Set.univ results := fun t => by
  rw [bigSep_W0, bigSep_W0, defs₀_row]
  exact triple_restated (sound_body m c t) rfl .rfl fun _ => .rfl

-- the launch theorem's implicit arguments are found by unfolding plain definitions in types
set_option backward.isDefEq.respectTransparency.types false in
/-- Every run ends with every array outside the windows as the host code left it and every counter at zero. -/
theorem run_main : θ_run defs (onTc (τ := τ) (main (F := F))) (s₀ m ρ)
    (fun r => (Pipeline.RDat.FramePost (cfgs 0) (fun c => (dats m 0 c).toRForget results) (V m)) r ∧ r.2.sem = fun _ => 0) :=
  Pipeline.θ_run_frame_forget (Q' := _) cfgs (dats m) (0 : Fin 1) launch0 defs₀ Variants.none results m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      (((dats m 0 c).toRForget_arrAt_iff (fgt := results) (w := 0) rfl _ _).mp ((h.1 c).1 0)).trans (((dats m 0 c).arrAt_in 0 rfl _).trans ((A_eq m c 0).trans (V_main_arg0 m c))),
      (((dats m 0 c).toRForget_arrAt_iff (fgt := results) (w := 1) rfl _ _).mp ((h.1 c).1 1)).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.Kernel3.Own

end
-- ==== Proof.FwdHost.lean ====
module

public import proofs.«01_k».proof.Proof.FfnStages
public import proofs.«01_k».proof.Proof.Gen.Kernel3Ideal.Frame
public import Idealize.ShloMosaic.Lib.StableHlo.ReadAt
public import Idealize.ShloMosaic.Lib.Pipeline.ValueKit

@[expose] public section

/-
  What the feed-forward sub-layer's launch finds in its seven inputs, at an index.
-/

set_option maxRecDepth 16384

noncomputable section

namespace Cert.Kernel3Ideal.Own

open Idealize.ShloMosaic Idealize.ShloMosaic.TcCoe Idealize.ShloMosaic.StableHlo Cert.Kernel3Ideal Cert.Kernel3Ideal.Gen
open Cert.Reference2Ideal.Own (unit)

variable (m : (ℓ : Loc nD τ sig) → Buf (Elt Ideal) ℓ) (c : Dev nD) (t : Fin cfg0.N)

abbrev arg0 : Vec Ideal S2048x1024 .f32 := m ((c.tc : Thread nD τ).loc main_arg0)
abbrev arg1 : Vec Ideal S3x1024 .f32 := m ((c.tc : Thread nD τ).loc main_arg1)
abbrev arg2 : Vec Ideal S1024x2816 .f32 := m ((c.tc : Thread nD τ).loc main_arg2)
abbrev arg3 : Vec Ideal S1024x2816 .f32 := m ((c.tc : Thread nD τ).loc main_arg3)
abbrev arg4 : Vec Ideal S2816x1024 .f32 := m ((c.tc : Thread nD τ).loc main_arg4)
abbrev arg5 : Vec Ideal S1024 .f32 := m ((c.tc : Thread nD τ).loc main_arg5)
abbrev arg6 : Vec Ideal S1024 .f32 := m ((c.tc : Thread nD τ).loc main_arg6)

theorem V_gate (p : Fin 4) (f : Fin 704) (d : Fin 1024) : V m c main_v2 (ix4 p 0 f d) = arg2 m c (ix2 d (unit p f)) := by
  after_reads_at
  rfl

theorem V_up (p : Fin 4) (f : Fin 704) (d : Fin 1024) : V m c main_v5 (ix4 p 0 f d) = arg3 m c (ix2 d (unit p f)) := by
  after_reads_at
  rfl

theorem V_down (p : Fin 4) (f : Fin 704) (d : Fin 1024) : V m c main_v7 (ix4 p 0 f d) = arg4 m c (ix2 (unit p f) d) := by
  after_reads_at
  rfl

theorem V_lng (d : Fin 1024) : V m c main_v8 (ix2 0 d) = arg5 m c (ix1 d) := by
  after_reads_at

theorem V_lnb (d : Fin 1024) : V m c main_v9 (ix2 0 d) = arg6 m c (ix1 d) := by
  after_reads_at

theorem index_0 : ∀ t : Fin cfg0.N, win0_0.index t = ![t.val / 4, 0] := by decide +kernel
theorem index_1 : ∀ t : Fin cfg0.N, win0_1.index t = ![0, 0] := by decide +kernel
theorem index_2 : ∀ t : Fin cfg0.N, win0_2.index t = ![t.val % 4, 0, 0, 0] := by decide +kernel
theorem index_3 : ∀ t : Fin cfg0.N, win0_3.index t = ![t.val % 4, 0, 0, 0] := by decide +kernel
theorem index_4 : ∀ t : Fin cfg0.N, win0_4.index t = ![t.val % 4, 0, 0, 0] := by decide +kernel
theorem index_5 : ∀ t : Fin cfg0.N, win0_5.index t = ![0, 0] := by decide +kernel
theorem index_6 : ∀ t : Fin cfg0.N, win0_6.index t = ![0, 0] := by decide +kernel

/-- The shard a point of the grid works on. -/
def shard : Fin 4 := ⟨t.val % 4, by omega⟩

/-- The token of row `s` of a point's tile. -/
def token (s : Fin 1024) : Fin 2048 := ⟨t.val / 4 * 1024 + s.val, by have := t.isLt; have : cfg0.N = 8 := N_0; omega⟩

theorem blk_0 (s d : Fin 1024) : iblk m c 0 t (ix2 s d) = arg0 m c (ix2 (token t s) d) := by
  refine Eq.trans ?_ (congrFun (V_main_arg0 m c) (ix2 (token t s) d))
  unfold iblk
  blk_ext [index_0 t, shard, token]

theorem blk_1 (k : Fin 3) (d : Fin 1024) : iblk m c 1 t (ix2 k d) = arg1 m c (ix2 k d) := by
  refine Eq.trans ?_ (congrFun (V_main_arg1 m c) (ix2 k d))
  unfold iblk
  blk_ext [index_1 t, shard, token]

theorem blk_2 (f : Fin 704) (d : Fin 1024) : iblk m c 2 t (ix4 0 0 f d) = arg2 m c (ix2 d (unit (shard t) f)) := by
  rw [← V_gate]
  unfold iblk
  blk_ext [index_2 t, shard, token]

theorem blk_3 (f : Fin 704) (d : Fin 1024) : iblk m c 3 t (ix4 0 0 f d) = arg3 m c (ix2 d (unit (shard t) f)) := by
  rw [← V_up]
  unfold iblk
  blk_ext [index_3 t, shard, token]

theorem blk_4 (f : Fin 704) (d : Fin 1024) : iblk m c 4 t (ix4 0 0 f d) = arg4 m c (ix2 (unit (shard t) f) d) := by
  rw [← V_down]
  unfold iblk
  blk_ext [index_4 t, shard, token]

theorem blk_5 (d : Fin 1024) : iblk m c 5 t (ix2 0 d) = arg5 m c (ix1 d) := by
  rw [← V_lng]
  unfold iblk
  blk_ext [index_5 t, shard, token]

theorem blk_6 (d : Fin 1024) : iblk m c 6 t (ix2 0 d) = arg6 m c (ix1 d) := by
  rw [← V_lnb]
  unfold iblk
  blk_ext [index_6 t, shard, token]

end Cert.Kernel3Ideal.Own

end
-- ==== Proof.FwdBody.lean ====
module

public import proofs.«01_k».proof.Proof.Gen.Kernel3Ideal.Frame
public import proofs.«01_k».proof.Proof.Gen.Kernel3Ideal.Skeleton
public import Idealize.ShloMosaic.Lib.Pipeline.ValueKit.Basic
public import Idealize.ShloMosaic.Lib.Pipeline.ReadBack
public import Idealize.ShloMosaic.Lib.Exec
public import Idealize.ShloMosaic.Lib.VecWindow
public import Idealize.ShloMosaic.Lib.Pipeline.ValueKit.Acc
public import Idealize.ShloMosaic.Lib.Pointwise
public import Idealize.ShloMosaic.Lib.Claim

@[expose] public section

/-
  The forward sub-layer's body, run at a shard of the hidden columns: the first shard starts the block of tokens, the
  last one ends it.
-/

set_option maxRecDepth 16384

noncomputable section

namespace Cert.Kernel3Ideal.Own

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The shift, the scale and the gate among the modulation's rows. -/
def shiftRow (x : Vec Ideal S3x1024 .f32) : Vec Ideal S1x1024 .f32 := View.ld x (Rect.unit (s := S3x1024) ![0, 0] S1x1024.size inb_S3x1024_S1x1024_0_0)
def scaleRow (x : Vec Ideal S3x1024 .f32) : Vec Ideal S1x1024 .f32 := View.ld x (Rect.unit (s := S3x1024) ![1, 0] S1x1024.size inb_S3x1024_S1x1024_1_0)
def gateRow (x : Vec Ideal S3x1024 .f32) : Vec Ideal S1x1024 .f32 := View.ld x (Rect.unit (s := S3x1024) ![2, 0] S1x1024.size inb_S3x1024_S1x1024_2_0)

/-- The blocks the body is given. -/
structure Blocks where
  x0 : Vec Ideal S1024x1024 .f32
  x1 : Vec Ideal S3x1024 .f32
  x2 : Vec Ideal S1x1x704x1024 .bf16
  x3 : Vec Ideal S1x1x704x1024 .bf16
  x4 : Vec Ideal S1x1x704x1024 .bf16
  x5 : Vec Ideal S1x1024 .f32
  x6 : Vec Ideal S1x1024 .f32

namespace Blocks

variable (X : Blocks) (h : Vec Ideal S1024x1024 .bf16) (f : Vec Ideal S1024x1024 .f32)

/-- The modulated tokens, -/
def hidden : Vec Ideal S1024x1024 .bf16 := k0_pay3 X.x0 (scaleRow X.x1) (shiftRow X.x1)
/-- the shard's part of the products with the first two weights, -/
def gate : Vec Ideal S1x1024x704 .bf16 := k0_pay8 h X.x2
def up : Vec Ideal S1x1024x704 .bf16 := k0_pay9 h X.x3
/-- of what is activated, -/
def act : Vec Ideal S1x1024x704 .bf16 := k0_pay11 h X.x2 X.x3
/-- the sum over the shards so far, -/
def acc : Vec Ideal S1024x1024 .f32 := k0_pay1 (k0_pay10 h X.x2 X.x3) (k0_pay12 f) X.x4
/-- and the result. -/
def out : Vec Ideal S1024x1024 .f32 := k0_pay2 f X.x0 (gateRow X.x1) X.x5 X.x6

end Blocks

end Cert.Kernel3Ideal.Own

end
-- ==== Proof.FwdStages.lean ====
module

public import proofs.«01_k».proof.Proof.Gen.Reference3Ideal.Read
public import proofs.«01_k».proof.Proof.FfnStages

@[expose] public section

/-
  The feed-forward sub-layer's reference at an index: what is hidden, the products with the first two weights, what is
  activated, their product with the last weight, and the normalised sum of that and the input.
-/

set_option maxRecDepth 16384

noncomputable section

namespace Cert.Reference3Ideal.Own

open Idealize.ShloMosaic Idealize.ShloMosaic.TcCoe Idealize.ShloMosaic.StableHlo Cert.Reference3Ideal Cert.Reference3Ideal.Gen Cert.Reference3Ideal.Read
open Cert.Reference2Ideal.Own (unit logi)

/-- A row's mean, its deviation from it, its variance, and the row normalised. -/
def mean (v : Fin 1024 → EReal) : EReal := Ideal.div (∑ d, v d) (Scalar.ofBits (F := Ideal) .f32 0x44800000#32)
def dev (v : Fin 1024 → EReal) (d : Fin 1024) : EReal := v d - mean v
def norm (v : Fin 1024 → EReal) (d : Fin 1024) : EReal :=
  dev v d * Ideal.rsqrt (mean (fun e => dev v e * dev v e) + Scalar.ofBits (F := Ideal) .f32 0x3727C5AC#32)

variable (x : Vec Ideal S2048x1024 .f32) (mod : Vec Ideal S3x1024 .f32) (wg wu : Vec Ideal S1024x2816 .f32)
  (wd : Vec Ideal S2816x1024 .f32) (lng lnb : Vec Ideal S1024 .f32)

/-- The modulated tokens. -/
def hid (s : Fin 2048) (d : Fin 1024) : EReal := norm (fun e => x (ix2 s e)) d * (1 + mod (ix2 1 d)) + mod (ix2 0 d)

/-- Their product with a weight. -/
def proj (w : Vec Ideal S1024x2816 .f32) (s : Fin 2048) (f : Fin 2816) : EReal := ∑ d : Fin 1024, hid x mod s d * w (ix2 d f)

/-- What is activated. -/
def act (s : Fin 2048) (f : Fin 2816) : EReal :=
  (proj x mod wg s f * logi (proj x mod wg s f)) * proj x mod wu s f

/-- The network's output, -/
def ffn (s : Fin 2048) (d : Fin 1024) : EReal := ∑ f : Fin 2816, act x mod wg wu s f * wd (ix2 f d)

/-- which is added to the input, -/
def res (s : Fin 2048) (d : Fin 1024) : EReal :=
  Scalar.ofBits (F := Ideal) .f32 0x3FB504F3#32 * x (ix2 s d) + (Scalar.ofBits (F := Ideal) .f32 0x3F000000#32 * mod (ix2 2 d)) * ffn x mod wg wu wd s d

/-- and the sum normalised. -/
def out (s : Fin 2048) (d : Fin 1024) : EReal :=
  norm (res x mod wg wu wd s) d * lng (ix1 d) + lnb (ix1 d)

theorem hid_apply (s : Fin 2048) (d : Fin 1024) : val_main_v29 (F := Ideal) x mod (ix2 s d) = hid x mod s d := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rfl

theorem gate_apply (s : Fin 2048) (f : Fin 2816) : val_main_v30 (F := Ideal) x mod wg (ix2 s f) = proj x mod wg s f := by
  pointwise [val_main_v30]
  exact Finset.sum_congr rfl fun d _ => congrArg (fun a : EReal => a * _) (hid_apply x mod s d)

theorem up_apply (s : Fin 2048) (f : Fin 2816) : val_main_v31 (F := Ideal) x mod wu (ix2 s f) = proj x mod wu s f := by
  pointwise [val_main_v31]
  exact Finset.sum_congr rfl fun d _ => congrArg (fun a : EReal => a * _) (hid_apply x mod s d)

theorem act_apply (s : Fin 2048) (f : Fin 2816) : val_main_v33 (F := Ideal) x mod wg wu (ix2 s f) = act x mod wg wu s f := by
  unfold act
  rw [← gate_apply, ← up_apply]
  pointwise [val_main_v33, val_main_v32, val_main_call0_v5, val_main_call0_v4, val_main_call0_v3, val_main_call0_v2, val_main_call0_v1, val_main_call0_v0, val_main_call0_cst, val_main_call0_cst_0]
  rfl

theorem ffn_apply (s : Fin 2048) (d : Fin 1024) : val_main_v34 (F := Ideal) x mod wg wu wd (ix2 s d) = ffn x mod wg wu wd s d := by
  pointwise [val_main_v34]
  exact Finset.sum_congr rfl fun f _ => congrArg (fun a : EReal => a * _) (act_apply x mod wg wu s f)

theorem res_apply (s : Fin 2048) (d : Fin 1024) : val_main_v44 (F := Ideal) x mod wg wu wd (ix2 s d) = res x mod wg wu wd s d := by
  unfold res
  rw [← ffn_apply]
  pointwise [val_main_v44, val_main_v43, val_main_v42, val_main_v41, val_main_v40, val_main_v39, val_main_v38, val_main_v37, val_main_v36, val_main_v35, val_main_cst_6, val_main_cst_5]

theorem out_apply (s : Fin 2048) (d : Fin 1024) :
    val_main_v68 (F := Ideal) x mod wg wu wd lng lnb (ix2 s d) = out x mod wg wu wd lng lnb s d := by
  have e : res x mod wg wu wd s = fun d => val_main_v44 (F := Ideal) x mod wg wu wd (ix2 s d) :=
    funext fun d => (res_apply x mod wg wu wd s d).symm
  unfold out
  rw [e]
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_cst_11, val_main_cst_10, val_main_cst_9, val_main_cst_8, val_main_cst_7]
  rfl

theorem hidden_shard (s : Fin 2048) (d : Fin 1024) : val_main_v78 (F := Ideal) x mod (ix2 s d) = hid x mod s d := by
  pointwise [val_main_v78]
  exact hid_apply x mod s d

theorem gate_shard (p : Fin 4) (s : Fin 2048) (f : Fin 704) :
    val_main_v71 (F := Ideal) x mod wg (ix3 p s f) = proj x mod wg s (unit p f) := by
  pointwise [val_main_v71, val_main_v70, val_main_v69]
  exact gate_apply x mod wg s (unit p f)

theorem up_shard (p : Fin 4) (s : Fin 2048) (f : Fin 704) :
    val_main_v74 (F := Ideal) x mod wu (ix3 p s f) = proj x mod wu s (unit p f) := by
  pointwise [val_main_v74, val_main_v73, val_main_v72]
  exact up_apply x mod wu s (unit p f)

theorem act_shard (p : Fin 4) (s : Fin 2048) (f : Fin 704) :
    val_main_v77 (F := Ideal) x mod wg wu (ix3 p s f) = act x mod wg wu s (unit p f) := by
  pointwise [val_main_v77, val_main_v76, val_main_v75]
  exact act_apply x mod wg wu s (unit p f)

end Cert.Reference3Ideal.Own

end
-- ==== Proof.FwdValues.lean ====
module

public import proofs.«01_k».proof.Proof.FwdHost
public import proofs.«01_k».proof.Proof.FwdBody
public import proofs.«01_k».proof.Proof.FwdStages
public import Idealize.ShloMosaic.Lib.Pointwise

@[expose] public section

/-
  The values of the feed-forward sub-layer's body, at an index.
-/

set_option maxRecDepth 16384

noncomputable section

namespace Cert.Kernel3Ideal.Own

open Idealize.ShloMosaic Idealize.ShloMosaic.TcCoe Idealize.ShloMosaic.StableHlo Cert.Kernel3Ideal Cert.Kernel3Ideal.Gen
open Cert.Reference2Ideal.Own (logi)
open Cert.Reference3Ideal.Own (mean dev norm)

theorem shift_apply (x : Vec Ideal S3x1024 .f32) (d : Fin 1024) : shiftRow x (ix2 0 d) = x (ix2 0 d) :=
  congrArg x (by funext a; fin_cases a <;> exact Fin.ext (by simp [ix2]))

theorem scale_apply (x : Vec Ideal S3x1024 .f32) (d : Fin 1024) : scaleRow x (ix2 0 d) = x (ix2 1 d) :=
  congrArg x (by funext a; fin_cases a <;> exact Fin.ext (by simp [ix2]))

theorem gateRow_apply (x : Vec Ideal S3x1024 .f32) (d : Fin 1024) : gateRow x (ix2 0 d) = x (ix2 2 d) :=
  congrArg x (by funext a; fin_cases a <;> exact Fin.ext (by simp [ix2]))

theorem zero_apply (s d : Fin 1024) : k0_pay4 (F := Ideal) (ix2 s d) = 0 := by
  pointwise [k0_pay4]

theorem norm_apply (x : Vec Ideal S1024x1024 .f32) (scale shift : Vec Ideal S1x1024 .f32) (s d : Fin 1024) :
    k0_pay3 x scale shift (ix2 s d) = norm (fun e => x (ix2 s e)) d * (1 + scale (ix2 0 d)) + shift (ix2 0 d) := by
  pointwise [k0_pay3]
  rfl

theorem gate_apply (h : Vec Ideal S1024x1024 .bf16) (w : Vec Ideal S1x1x704x1024 .bf16) (s : Fin 1024) (f : Fin 704) :
    k0_pay6 h w (ix2 s f) = ∑ d : Fin 1024, h (ix2 s d) * w (ix4 0 0 f d) := by
  pointwise [k0_pay6, k0_pay5]

theorem up_apply (h : Vec Ideal S1024x1024 .bf16) (w : Vec Ideal S1x1x704x1024 .bf16) (s : Fin 1024) (f : Fin 704) :
    k0_pay7 h w (ix2 s f) = ∑ d : Fin 1024, h (ix2 s d) * w (ix4 0 0 f d) := by
  pointwise [k0_pay7, k0_pay5]

theorem act_apply (h : Vec Ideal S1024x1024 .bf16) (wg wu : Vec Ideal S1x1x704x1024 .bf16) (s : Fin 1024) (f : Fin 704) :
    k0_pay10 h wg wu (ix2 s f) = (k0_pay6 h wg (ix2 s f) * logi (k0_pay6 h wg (ix2 s f))) * k0_pay7 h wu (ix2 s f) := by
  pointwise [k0_pay10]
  rfl

theorem gate_store (h : Vec Ideal S1024x1024 .bf16) (w : Vec Ideal S1x1x704x1024 .bf16) (s : Fin 1024) (f : Fin 704) :
    k0_pay8 h w (ix3 0 s f) = k0_pay6 h w (ix2 s f) := by
  pointwise [k0_pay8]

theorem up_store (h : Vec Ideal S1024x1024 .bf16) (w : Vec Ideal S1x1x704x1024 .bf16) (s : Fin 1024) (f : Fin 704) :
    k0_pay9 h w (ix3 0 s f) = k0_pay7 h w (ix2 s f) := by
  pointwise [k0_pay9]

theorem act_store (h : Vec Ideal S1024x1024 .bf16) (wg wu : Vec Ideal S1x1x704x1024 .bf16) (s : Fin 1024) (f : Fin 704) :
    k0_pay11 h wg wu (ix3 0 s f) = k0_pay10 h wg wu (ix2 s f) := by
  pointwise [k0_pay11]

theorem down_apply (a : Vec Ideal S1024x704 .bf16) (f : Vec Ideal S1024x1024 .f32) (w : Vec Ideal S1x1x704x1024 .bf16) (s d : Fin 1024) :
    k0_pay1 a (k0_pay12 f) w (ix2 s d) = f (ix2 s d) + ∑ j : Fin 704, a (ix2 s j) * w (ix4 0 0 j d) := by
  pointwise [k0_pay1, k0_pay12]

theorem out_apply (f x : Vec Ideal S1024x1024 .f32) (gate lng lnb : Vec Ideal S1x1024 .f32) (s d : Fin 1024) :
    k0_pay2 f x gate lng lnb (ix2 s d)
      = norm (fun e => Scalar.ofBits (F := Ideal) .f32 0x3FB504F3#32 * x (ix2 s e)
          + (Scalar.ofBits (F := Ideal) .f32 0x3F000000#32 * gate (ix2 0 e)) * f (ix2 s e)) d * lng (ix2 0 d) + lnb (ix2 0 d) := by
  pointwise [k0_pay2]
  rfl

end Cert.Kernel3Ideal.Own

end
-- ==== Proof.FwdFirst.lean ====
module

public import proofs.«01_k».proof.Proof.FwdBody
public import Idealize.ShloMosaic.Lib.VecWindow
public import Idealize.ShloMosaic.Lib.Pipeline.ValueKit.Acc

@[expose] public section

/-
  The feed-forward body at the first of a tile's shards.
-/

set_option maxRecDepth 16384

noncomputable section

namespace Cert.Kernel3Ideal.Own

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 4000000 in
/-- The first shard. -/
theorem body_first (c : Dev nD) (i : grid0.Coords) (arg2 : Memref sig .tc .vmem S1024x1024 .f32) (harg2 : arg2.IsWhole) (arg3 : Memref sig .tc .vmem S3x1024 .f32) (harg3 : arg3.IsWhole) (arg4 : Memref sig .tc .vmem S1x1x704x1024 .bf16) (harg4 : arg4.IsWhole) (arg5 : Memref sig .tc .vmem S1x1x704x1024 .bf16) (harg5 : arg5.IsWhole) (arg6 : Memref sig .tc .vmem S1x1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1x1024x704 .bf16) (harg11 : arg11.IsWhole) (arg12 : Memref sig .tc .vmem S1x1024x704 .bf16) (harg12 : arg12.IsWhole) (arg13 : Memref sig .tc .vmem S1x1024x704 .bf16) (harg13 : arg13.IsWhole) (arg14 : Memref sig .tc .vmem S1024x1024 .bf16) (harg14 : arg14.IsWhole)
    (hc0 : k0_cond1 i = 1#1) (hc1 : ¬k0_cond2 i = 1#1)
    (X : Blocks) (x7 : Vec Ideal S1024x1024 .f32) (x8 : Vec Ideal S1024x1024 .f32) (x12 : Vec Ideal S1024x1024 .bf16) :
      ∀ (E : Set ℕ) (K : PUnit → sProp 𝕄),
        iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare x7 ∗ owns (c : Thread nD τ) arg10 fullShare (X.acc X.hidden (k0_pay4 (F := Ideal))) ∗ owns (c : Thread nD τ) arg11 fullShare (X.gate X.hidden) ∗ owns (c : Thread nD τ) arg12 fullShare (X.up X.hidden) ∗ owns (c : Thread nD τ) arg13 fullShare (X.act X.hidden) ∗ owns (c : Thread nD τ) arg14 fullShare X.hidden) -∗ K ⟨⟩))
          ⊢ wp frame (wpE (defs₀ (F := Ideal)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]; · iexists _; isplitr; swap; (· iexact H0); ipureintro; exact harg2.read_unread _
  isplitl [H1]; · iexists _; isplitr; swap; (· iexact H1); ipureintro; exact harg3.read_unread _
  isplitl [H2]; · iexists _; isplitr; swap; (· iexact H2); ipureintro; exact harg4.read_unread _
  isplitl [H3]; · iexists _; isplitr; swap; (· iexact H3); ipureintro; exact harg5.read_unread _
  isplitl [H4]; · iexists _; isplitr; swap; (· iexact H4); ipureintro; exact harg6.read_unread _
  isplitl [H5]; · iexists _; isplitr; swap; (· iexact H5); ipureintro; exact harg7.read_unread _
  isplitl [H6]; · iexists _; isplitr; swap; (· iexact H6); ipureintro; exact harg8.read_unread _
  isplitl [H7]; · iexists _; isplitr; swap; (· iexact H7); ipureintro; exact harg9.read_unread _
  isplitl [H8]; · iexists _; isplitr; swap; (· iexact H8); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H9]; · iexists _; isplitr; swap; (· iexact H9); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H10]; · iexists _; isplitr; swap; (· iexact H10); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H11]; · iexists _; isplitr; swap; (· iexact H11); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  iexists _; isplitr; swap; (· iexact H12); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_first.sl.v3 body_first.sl.H12_1 body_first.sl.r body_first.sl.r_1 body_first.sl.v28 body_first.sl.v26 body_first.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))

end Cert.Kernel3Ideal.Own

end
-- ==== Proof.FwdMiddle.lean ====
module

public import proofs.«01_k».proof.Proof.FwdBody
public import Idealize.ShloMosaic.Lib.VecWindow
public import Idealize.ShloMosaic.Lib.Pipeline.ValueKit.Acc

@[expose] public section

/-
  The feed-forward body at the middle of a tile's shards (a shard between).
-/

set_option maxRecDepth 16384

noncomputable section

namespace Cert.Kernel3Ideal.Own

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 4000000 in
/-- A shard between. -/
theorem body_middle (c : Dev nD) (i : grid0.Coords) (arg2 : Memref sig .tc .vmem S1024x1024 .f32) (harg2 : arg2.IsWhole) (arg3 : Memref sig .tc .vmem S3x1024 .f32) (harg3 : arg3.IsWhole) (arg4 : Memref sig .tc .vmem S1x1x704x1024 .bf16) (harg4 : arg4.IsWhole) (arg5 : Memref sig .tc .vmem S1x1x704x1024 .bf16) (harg5 : arg5.IsWhole) (arg6 : Memref sig .tc .vmem S1x1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1x1024x704 .bf16) (harg11 : arg11.IsWhole) (arg12 : Memref sig .tc .vmem S1x1024x704 .bf16) (harg12 : arg12.IsWhole) (arg13 : Memref sig .tc .vmem S1x1024x704 .bf16) (harg13 : arg13.IsWhole) (arg14 : Memref sig .tc .vmem S1024x1024 .bf16) (harg14 : arg14.IsWhole)
    (hc0 : ¬k0_cond1 i = 1#1) (hc1 : ¬k0_cond2 i = 1#1)
    (X : Blocks) (x7 : Vec Ideal S1024x1024 .f32) (x8 : Vec Ideal S1024x1024 .f32) (x12 : Vec Ideal S1024x1024 .bf16) :
      ∀ (E : Set ℕ) (K : PUnit → sProp 𝕄),
        iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x12
            ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare x7 ∗ owns (c : Thread nD τ) arg10 fullShare (X.acc x12 x8) ∗ owns (c : Thread nD τ) arg11 fullShare (X.gate x12) ∗ owns (c : Thread nD τ) arg12 fullShare (X.up x12) ∗ owns (c : Thread nD τ) arg13 fullShare (X.act x12) ∗ owns (c : Thread nD τ) arg14 fullShare x12) -∗ K ⟨⟩))
          ⊢ wp frame (wpE (defs₀ (F := Ideal)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12
  sl_exec (disch := first | sl_exact hc0 | sl_exact hc1)
  sl_step
  iapply Hk
  isplitl [H0]; · iexists _; isplitr; swap; (· iexact H0); ipureintro; exact harg2.read_unread _
  isplitl [H1]; · iexists _; isplitr; swap; (· iexact H1); ipureintro; exact harg3.read_unread _
  isplitl [H2]; · iexists _; isplitr; swap; (· iexact H2); ipureintro; exact harg4.read_unread _
  isplitl [H3]; · iexists _; isplitr; swap; (· iexact H3); ipureintro; exact harg5.read_unread _
  isplitl [H4]; · iexists _; isplitr; swap; (· iexact H4); ipureintro; exact harg6.read_unread _
  isplitl [H5]; · iexists _; isplitr; swap; (· iexact H5); ipureintro; exact harg7.read_unread _
  isplitl [H6]; · iexists _; isplitr; swap; (· iexact H6); ipureintro; exact harg8.read_unread _
  isplitl [H7]; · iexists _; isplitr; swap; (· iexact H7); ipureintro; exact harg9.read_unread _
  isplitl [H8]; · iexists _; isplitr; swap; (· iexact H8); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H9]; · iexists _; isplitr; swap; (· iexact H9); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H10]; · iexists _; isplitr; swap; (· iexact H10); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H11]; · iexists _; isplitr; swap; (· iexact H11); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_middle.sl.r body_middle.sl.r_1 body_middle.sl.v28; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  iexists _; isplitr; swap; (· iexact H12); ipureintro; exact harg14.read_unread _

end Cert.Kernel3Ideal.Own

end
-- ==== Proof.FwdLast.lean ====
module

public import proofs.«01_k».proof.Proof.FwdBody
public import Idealize.ShloMosaic.Lib.VecWindow
public import Idealize.ShloMosaic.Lib.Pipeline.ValueKit.Acc

@[expose] public section

/-
  The feed-forward body at the last of a tile's shards.
-/

set_option maxRecDepth 16384

noncomputable section

namespace Cert.Kernel3Ideal.Own

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 4000000 in
/-- The last shard. -/
theorem body_last (c : Dev nD) (i : grid0.Coords) (arg2 : Memref sig .tc .vmem S1024x1024 .f32) (harg2 : arg2.IsWhole) (arg3 : Memref sig .tc .vmem S3x1024 .f32) (harg3 : arg3.IsWhole) (arg4 : Memref sig .tc .vmem S1x1x704x1024 .bf16) (harg4 : arg4.IsWhole) (arg5 : Memref sig .tc .vmem S1x1x704x1024 .bf16) (harg5 : arg5.IsWhole) (arg6 : Memref sig .tc .vmem S1x1x704x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1x1024x704 .bf16) (harg11 : arg11.IsWhole) (arg12 : Memref sig .tc .vmem S1x1024x704 .bf16) (harg12 : arg12.IsWhole) (arg13 : Memref sig .tc .vmem S1x1024x704 .bf16) (harg13 : arg13.IsWhole) (arg14 : Memref sig .tc .vmem S1024x1024 .bf16) (harg14 : arg14.IsWhole)
    (hc0 : ¬k0_cond1 i = 1#1) (hc1 : k0_cond2 i = 1#1)
    (X : Blocks) (x7 : Vec Ideal S1024x1024 .f32) (x8 : Vec Ideal S1024x1024 .f32) (x12 : Vec Ideal S1024x1024 .bf16) :
      ∀ (E : Set ℕ) (K : PUnit → sProp 𝕄),
        iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ (∃ d, owns (c : Thread nD τ) arg9 fullShare d) ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x12
            ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare (X.out (X.acc x12 x8)) ∗ owns (c : Thread nD τ) arg10 fullShare (X.acc x12 x8) ∗ owns (c : Thread nD τ) arg11 fullShare (X.gate x12) ∗ owns (c : Thread nD τ) arg12 fullShare (X.up x12) ∗ owns (c : Thread nD τ) arg13 fullShare (X.act x12) ∗ owns (c : Thread nD τ) arg14 fullShare x12) -∗ K ⟨⟩))
          ⊢ wp frame (wpE (defs₀ (F := Ideal)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg14.eq_unread hf12
  sl_exec (disch := first | sl_exact hc0 | sl_exact hc1)
  sl_step
  iapply Hk
  isplitl [H0]; · iexists _; isplitr; swap; (· iexact H0); ipureintro; exact harg2.read_unread _
  isplitl [H1]; · iexists _; isplitr; swap; (· iexact H1); ipureintro; exact harg3.read_unread _
  isplitl [H2]; · iexists _; isplitr; swap; (· iexact H2); ipureintro; exact harg4.read_unread _
  isplitl [H3]; · iexists _; isplitr; swap; (· iexact H3); ipureintro; exact harg5.read_unread _
  isplitl [H4]; · iexists _; isplitr; swap; (· iexact H4); ipureintro; exact harg6.read_unread _
  isplitl [H5]; · iexists _; isplitr; swap; (· iexact H5); ipureintro; exact harg7.read_unread _
  isplitl [H6]; · iexists _; isplitr; swap; (· iexact H6); ipureintro; exact harg8.read_unread _
  isplitl [H7]; · iexists _; isplitr; swap; (· iexact H7); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H8]; · iexists _; isplitr; swap; (· iexact H8); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H9]; · iexists _; isplitr; swap; (· iexact H9); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H10]; · iexists _; isplitr; swap; (· iexact H10); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  isplitl [H11]; · iexists _; isplitr; swap; (· iexact H11); ipureintro; refine (View.read_writes_full _ _ _ _ _).trans ?_; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]; (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow])); (try (delta body_last.sl.v36 body_last.sl.r body_last.sl.r_1 body_last.sl.v28 body_last.sl.H8_1; simp (disch := decide) only [View.readAt_eq_ld, View.read_writes_full, View.readCov_full, Memref.IsWhole.read_unread, View.ld_unit_lit', View.readCov_cons_unit_lit', View.readCov_unit_lit',
      Blocks.hidden, Blocks.gate, Blocks.up, Blocks.act, Blocks.acc, Blocks.out, shiftRow, scaleRow, gateRow]))
  iexists _; isplitr; swap; (· iexact H12); ipureintro; exact harg14.read_unread _

end Cert.Kernel3Ideal.Own

end
-- ==== Proof.FwdLaunch.lean ====
module

public import proofs.«01_k».proof.Proof.FwdFirst
public import proofs.«01_k».proof.Proof.FwdMiddle
public import proofs.«01_k».proof.Proof.FwdLast
public import Idealize.ShloMosaic.Lib.WordCmp

@[expose] public section

/-
  The feed-forward launch: over a tile of tokens the four shards' products are added up; the first point of the tile writes
  the modulated tokens, the last the result.
-/

set_option maxRecDepth 16384

noncomputable section

namespace Cert.Kernel3Ideal.Own

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem first_iff : ∀ t : Fin cfg0.N, k0_cond1 (grid0.coords t) = 1#1 ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

theorem last_iff : ∀ t : Fin cfg0.N, k0_cond2 (grid0.coords t) = 1#1 ↔ t.val % 4 = 3 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [k0_cond2, e0, e1]
    word_cmp
   : ∀ t : Fin grid0.N, k0_cond2 (grid0.coords t) = 1#1 ↔ t.val % 4 = 3)

/-- The result's window is idle but at a tile's last point, where it is written back; the modulated tokens' but at the first. -/
theorem idle_7 : ∀ t : Fin cfg0.N, ¬t.val % 4 = 3 → cfg0.idle 7 (grid0.coords t) = true ∧ (cfg0.win 7).flush t = false := by decide +kernel
theorem live_7 : ∀ t : Fin cfg0.N, t.val % 4 = 3 → cfg0.idle 7 (grid0.coords t) = false := by decide +kernel
theorem live_12 : ∀ t : Fin cfg0.N, t.val % 4 = 0 → cfg0.idle 12 (grid0.coords t) = false := by decide +kernel
theorem idle_12 : ∀ t : Fin cfg0.N, ¬t.val % 4 = 0 → cfg0.idle 12 (grid0.coords t) = true := by decide +kernel
theorem noflush_12 : ∀ t : Fin cfg0.N, ¬t.val % 4 = 3 → (cfg0.win 12).flush t = false := by decide +kernel
theorem flush_12 : ∀ t : Fin cfg0.N, t.val % 4 = 3 → (cfg0.win 12).flush t = true := by decide +kernel

/-- A point's blocks, -/
def inputs (c : Dev nD) (t : Fin cfg0.N) : Blocks :=
  ⟨iblk m c 0 t, iblk m c 1 t, iblk m c 2 t, iblk m c 3 t, iblk m c 4 t, iblk m c 5 t, iblk m c 6 t⟩

/-- the first point of its tile, -/
def first (t : Fin cfg0.N) : Fin cfg0.N := ⟨t.val / 4 * 4, Nat.lt_of_le_of_lt (Nat.div_mul_le_self _ _) t.isLt⟩

/-- the modulated tokens of the tile, -/
def hiddenAt (c : Dev nD) (t : Fin cfg0.N) : Vec Ideal S1024x1024 .bf16 := (inputs m c (first t)).hidden

/-- and the sum over its shards so far. -/
def sumAt (c : Dev nD) : (n : ℕ) → n < cfg0.N → Vec Ideal S1024x1024 .f32
  | 0, hn => (inputs m c ⟨0, hn⟩).acc (hiddenAt m c ⟨0, hn⟩) (k0_pay4 (F := Ideal))
  | n + 1, hn => (inputs m c ⟨n + 1, hn⟩).acc (hiddenAt m c ⟨n + 1, hn⟩)
      (if (n + 1) % 4 = 0 then k0_pay4 (F := Ideal) else sumAt c n (Nat.lt_of_succ_lt hn))

theorem sumAt_first (c : Dev nD) (t : Fin cfg0.N) (h : t.val % 4 = 0) :
    sumAt m c t.val t.isLt = (inputs m c t).acc (hiddenAt m c t) (k0_pay4 (F := Ideal)) := by
  obtain ⟨n, hn⟩ := t
  cases n with
  | zero => rfl
  | succ n => rw [sumAt, if_pos h]

theorem sumAt_next (c : Dev nD) (t : Fin cfg0.N) (h : ¬t.val % 4 = 0) :
    sumAt m c t.val t.isLt = (inputs m c t).acc (hiddenAt m c t) (sumAt m c (t.val - 1) (Nat.lt_of_le_of_lt (Nat.sub_le _ _) t.isLt)) := by
  obtain ⟨n, hn⟩ := t
  cases n with
  | zero => exact absurd rfl h
  | succ n => rw [sumAt, if_neg h]; rfl

/-- The launch's proof data: each input's block left as it was, and what the body makes of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (inputs m c t).out (sumAt m c t.val t.isLt)
    | ⟨8, _⟩ => sumAt m c t.val t.isLt
    | ⟨9, _⟩ => (inputs m c t).gate (hiddenAt m c t)
    | ⟨10, _⟩ => (inputs m c t).up (hiddenAt m c t)
    | ⟨11, _⟩ => (inputs m c t).act (hiddenAt m c t)
    | ⟨12, _⟩ => hiddenAt m c t
  Φ _ := Pipeline.ΦA spec0 c
  q _ := fullShare
  owed _ := 0

/-- The arrays are what the host code before the launch left. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (inputs m c t).out (sumAt m c t.val t.isLt) := by dsimp only [dats]
theorem after_8 (c : Dev nD) (t : Fin cfg0.N) : (dats m 0 c).after 8 t = sumAt m c t.val t.isLt := by dsimp only [dats]
theorem after_9 (c : Dev nD) (t : Fin cfg0.N) : (dats m 0 c).after 9 t = (inputs m c t).gate (hiddenAt m c t) := by dsimp only [dats]
theorem after_10 (c : Dev nD) (t : Fin cfg0.N) : (dats m 0 c).after 10 t = (inputs m c t).up (hiddenAt m c t) := by dsimp only [dats]
theorem after_11 (c : Dev nD) (t : Fin cfg0.N) : (dats m 0 c).after 11 t = (inputs m c t).act (hiddenAt m c t) := by dsimp only [dats]
theorem after_12 (c : Dev nD) (t : Fin cfg0.N) : (dats m 0 c).after 12 t = hiddenAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Past a tile's first point the accumulator holds the sum so far, -/
theorem before_8 (c : Dev nD) (t : Fin cfg0.N) (h : ¬t.val % 4 = 0) (d) :
    (dats m 0 c).before 8 t d = sumAt m c (t.val - 1) (Nat.lt_of_le_of_lt (Nat.sub_le _ _) t.isLt) := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]

/-- and the modulated tokens' buffer what the first point wrote. -/
theorem before_12 (c : Dev nD) : ∀ (n : ℕ) (hn : n < cfg0.N), ¬n % 4 = 0 → ∀ d, (dats m 0 c).before 12 ⟨n, hn⟩ d = hiddenAt m c ⟨n, hn⟩
  | 0, _, h, _ => absurd rfl h
  | n + 1, hn, h, d => by
    have e : hiddenAt m c ⟨n + 1, hn⟩ = hiddenAt m c ⟨n, Nat.lt_of_succ_lt hn⟩ :=
      congrArg (fun t => (inputs m c t).hidden) (Fin.ext (by show (n + 1) / 4 * 4 = n / 4 * 4; omega))
    rw [(dats m 0 c).before_of_pos 12 ⟨n + 1, hn⟩ (Nat.succ_ne_zero n) ((cfg0.win 12).fetch_out rfl _) d,
      if_neg (by rw [noflush_12 _ (by show ¬n % 4 = 3; omega)]; exact Bool.false_ne_true), e]
    show (dats m 0 c).left 12 ⟨n, Nat.lt_of_succ_lt hn⟩ d = _
    unfold Dat.left
    by_cases hz : n % 4 = 0
    · rw [show cfg0.idle 12 (cfg0.grid.coords ⟨n, Nat.lt_of_succ_lt hn⟩) = false from live_12 ⟨n, Nat.lt_of_succ_lt hn⟩ hz]
      show (dats m 0 c).kept 12 ⟨n, _⟩ d = _
      unfold Dat.kept
      rw [Pipeline.fill_of_clip_none 12 _ (fun _ => rfl) d ((dats m 0 c).after 12 _), Window.fill_cut, after_12]
    · rw [show cfg0.idle 12 (cfg0.grid.coords ⟨n, Nat.lt_of_succ_lt hn⟩) = true from idle_12 ⟨n, Nat.lt_of_succ_lt hn⟩ hz]
      exact before_12 c n (Nat.lt_of_succ_lt hn) hz d

abbrev ms_0 (t : Fin cfg0.N) : Memref sig .tc .vmem S1024x1024 .f32 := win0_0.stage (cfg0.slots t 0)
abbrev ms_1 (t : Fin cfg0.N) : Memref sig .tc .vmem S3x1024 .f32 := win0_1.stage (cfg0.slots t 1)
abbrev ms_2 (t : Fin cfg0.N) : Memref sig .tc .vmem S1x1x704x1024 .bf16 := win0_2.stage (cfg0.slots t 2)
abbrev ms_3 (t : Fin cfg0.N) : Memref sig .tc .vmem S1x1x704x1024 .bf16 := win0_3.stage (cfg0.slots t 3)
abbrev ms_4 (t : Fin cfg0.N) : Memref sig .tc .vmem S1x1x704x1024 .bf16 := win0_4.stage (cfg0.slots t 4)
abbrev ms_5 (t : Fin cfg0.N) : Memref sig .tc .vmem S1x1024 .f32 := win0_5.stage (cfg0.slots t 5)
abbrev ms_6 (t : Fin cfg0.N) : Memref sig .tc .vmem S1x1024 .f32 := win0_6.stage (cfg0.slots t 6)
abbrev ms_7 (t : Fin cfg0.N) : Memref sig .tc .vmem S1024x1024 .f32 := win0_7.stage (cfg0.slots t 7)
abbrev ms_8 (t : Fin cfg0.N) : Memref sig .tc .vmem S1024x1024 .f32 := win0_8.stage (cfg0.slots t 8)
abbrev ms_9 (t : Fin cfg0.N) : Memref sig .tc .vmem S1x1024x704 .bf16 := win0_9.stage (cfg0.slots t 9)
abbrev ms_10 (t : Fin cfg0.N) : Memref sig .tc .vmem S1x1024x704 .bf16 := win0_10.stage (cfg0.slots t 10)
abbrev ms_11 (t : Fin cfg0.N) : Memref sig .tc .vmem S1x1024x704 .bf16 := win0_11.stage (cfg0.slots t 11)
abbrev ms_12 (t : Fin cfg0.N) : Memref sig .tc .vmem S1024x1024 .bf16 := win0_12.stage (cfg0.slots t 12)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- A window that is not idle is left at what the proof data say, -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- and so is one that is written back. -/
theorem leaves_flushed (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 1000000 in
/-- The body at a tile's first point. -/
theorem sound_first (c : Dev nD) (t : Fin cfg0.N) (h0 : t.val % 4 = 0) (h1 : ¬t.val % 4 = 3) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 8 t rfl, after_8]
  rw [leaves_live m c 9 t rfl, after_9]
  rw [leaves_live m c 10 t rfl, after_10]
  rw [leaves_live m c 11 t rfl, after_11]
  rw [Dat.leavesExact_idle (dats m 0 c) 7 t (idle_7 t h1).1 (idle_7 t h1).2]
  rw [leaves_live m c 12 t (live_12 t h0), after_12]
  rw [sumAt_first m c t h0, show hiddenAt m c t = (inputs m c t).hidden from congrArg (fun t => (inputs m c t).hidden) (Fin.ext (by show t.val / 4 * 4 = t.val; omega))]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_first c (grid0.coords t) _ _ _ _ _ _ _ _ _ _ _ _ _ _ _ _ _ _ _ _ _ _ _ _ _ _ ((first_iff t).mpr h0) (fun h => h1 ((last_iff t).mp h)) (inputs m c t) _ (k0_pay4 (F := Ideal)) (hiddenAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  isplitl [H9]; · iexact H9
  isplitl [H10]; · iexact H10
  isplitl [H11]; · iexact H11
  iexact H12

set_option maxHeartbeats 1000000 in
/-- The body at a point between. -/
theorem sound_middle (c : Dev nD) (t : Fin cfg0.N) (h0 : ¬t.val % 4 = 0) (h1 : ¬t.val % 4 = 3) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_8 m c t h0, before_12 m c t.val t.isLt h0]
  rw [show (dats m 0 c).Φ t.succ = (dats m 0 c).Φ t.castSucc from rfl,
    show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 8 t rfl, after_8]
  rw [leaves_live m c 9 t rfl, after_9]
  rw [leaves_live m c 10 t rfl, after_10]
  rw [leaves_live m c 11 t rfl, after_11]
  rw [Dat.leavesExact_idle (dats m 0 c) 7 t (idle_7 t h1).1 (idle_7 t h1).2]
  rw [Dat.leavesExact_idle (dats m 0 c) 12 t (idle_12 t h0) (noflush_12 t h1)]
  rw [sumAt_next m c t h0]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_middle c (grid0.coords t) _ _ _ _ _ _ _ _ _ _ _ _ _ _ _ _ _ _ _ _ _ _ _ _ _ _ (fun h => h0 ((first_iff t).mp h)) (fun h => h1 ((last_iff t).mp h)) (inputs m c t) _ _ (hiddenAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  iintro ⟨H0, H1, H2, H3, H4, H5, H6, H7, H8, H9, H10, H11, H12⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  isplitl [H9]; · iexact H9
  isplitl [H10]; · iexact H10
  isplitl [H11]; · iexact H11
  iexists d12; simp only [before_12 m c t.val t.isLt h0]; iexact H12

set_option maxHeartbeats 1000000 in
/-- The body at a tile's last point. -/
theorem sound_last (c : Dev nD) (t : Fin cfg0.N) (h0 : ¬t.val % 4 = 0) (h1 : t.val % 4 = 3) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_8 m c t h0, before_12 m c t.val t.isLt h0]
  rw [show (dats m 0 c).Φ t.succ = (dats m 0 c).Φ t.castSucc from rfl,
    show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 8 t rfl, after_8]
  rw [leaves_live m c 9 t rfl, after_9]
  rw [leaves_live m c 10 t rfl, after_10]
  rw [leaves_live m c 11 t rfl, after_11]
  rw [leaves_live m c 7 t (live_7 t h1), after_7]
  rw [leaves_flushed m c 12 t (idle_12 t h0) (flush_12 t h1), after_12]
  rw [sumAt_next m c t h0]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_last c (grid0.coords t) _ _ _ _ _ _ _ _ _ _ _ _ _ _ _ _ _ _ _ _ _ _ _ _ _ _ (fun h => h0 ((first_iff t).mp h)) ((last_iff t).mpr h1) (inputs m c t) (k0_pay4 (F := Ideal)) _ (hiddenAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  isplitl [H11]; · iexists _; iexact H11
  isplitl [H12]; · iexact H12
  iintro ⟨H0, H1, H2, H3, H4, H5, H6, H7, H8, H9, H10, H11, H12⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body the table names is the body at the point. -/
theorem defs₀_row (t : Fin cfg0.N) :
    defs₀ (F := Ideal) .tc cfg0.body (cfg0.bodyArgs t (cfg0.slots t)) = bodyAt0 t := by
  unfold defs₀; rw [Defs.onTc_tc]

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 4 = 0
  · exact sound_first m c t h0 (by omega)
  · by_cases h1 : t.val % 4 = 3
    · exact sound_last m c t h0 h1
    · exact sound_middle m c t h0 h1

/-- The launch's obligation for its body. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

-- the launch theorem's implicit arguments are found by unfolding plain definitions in types
set_option backward.isDefEq.respectTransparency.types false in
/-- Every run ends with every array at what the proof data say and every counter at zero. -/
theorem run_counted : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_counted m ρ)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_counted m ρ))

end Cert.Kernel3Ideal.Own

end
-- ==== Proof.FwdResult.lean ====
module

public import proofs.«01_k».proof.Proof.FwdValues
public import proofs.«01_k».proof.Proof.FwdLaunch
public import Idealize.ShloMosaic.Lib.Pipeline.ReadBack

@[expose] public section

/-
  The feed-forward sub-layer's six results are the reference's.
-/

set_option maxRecDepth 16384

noncomputable section

namespace Cert.Kernel3Ideal.Own

open Idealize.ShloMosaic Idealize.ShloMosaic.TcCoe Idealize.ShloMosaic.StableHlo Idealize.ShloMosaic.Pipeline Cert.Kernel3Ideal Cert.Kernel3Ideal.Gen
open Idealize.SL Idealize.SL.Sem
open Cert.Reference2Ideal.Own (unit logi)
open Cert.Reference3Ideal.Read (val_main_v34 val_main_v68 val_main_v71 val_main_v74 val_main_v77 val_main_v78)

variable (m : (ℓ : Loc nD τ sig) → Buf (Elt Ideal) ℓ) (c : Dev nD)

/-- The reference's values of this call's arguments. -/
abbrev refHid := Cert.Reference3Ideal.Own.hid (arg0 m c) (arg1 m c)
abbrev refProj := Cert.Reference3Ideal.Own.proj (arg0 m c) (arg1 m c)
abbrev refAct := Cert.Reference3Ideal.Own.act (arg0 m c) (arg1 m c) (arg2 m c) (arg3 m c)
abbrev refFfn := Cert.Reference3Ideal.Own.ffn (arg0 m c) (arg1 m c) (arg2 m c) (arg3 m c) (arg4 m c)

section Points

variable (t : Fin cfg0.N)

theorem token_first (s : Fin 1024) : token (first t) s = token t s :=
  Fin.ext (by show t.val / 4 * 4 / 4 * 1024 + s.val = t.val / 4 * 1024 + s.val; omega)

theorem hidden_at (s d : Fin 1024) : hiddenAt m c t (ix2 s d) = refHid m c (token t s) d := by
  refine (norm_apply (iblk m c 0 (first t)) _ _ s d).trans ?_
  have e : ∀ k, (inputs m c (first t)).x1 (ix2 k d) = arg1 m c (ix2 k d) := fun k => blk_1 m c (first t) k d
  rw [scale_apply, shift_apply, e, e]
  simp only [blk_0, token_first]
  rfl

theorem gate_at (s : Fin 1024) (f : Fin 704) :
    k0_pay6 (hiddenAt m c t) (iblk m c 2 t) (ix2 s f) = refProj m c (arg2 m c) (token t s) (unit (shard t) f) := by
  rw [gate_apply]
  exact Finset.sum_congr rfl fun d _ => congrArg₂ (fun a b : EReal => a * b) (hidden_at m c t s d) (blk_2 m c t f d)

theorem up_at (s : Fin 1024) (f : Fin 704) :
    k0_pay7 (hiddenAt m c t) (iblk m c 3 t) (ix2 s f) = refProj m c (arg3 m c) (token t s) (unit (shard t) f) := by
  rw [up_apply]
  exact Finset.sum_congr rfl fun d _ => congrArg₂ (fun a b : EReal => a * b) (hidden_at m c t s d) (blk_3 m c t f d)

theorem act_at (s : Fin 1024) (f : Fin 704) :
    k0_pay10 (hiddenAt m c t) (iblk m c 2 t) (iblk m c 3 t) (ix2 s f) = refAct m c (token t s) (unit (shard t) f) := by
  rw [act_apply, gate_at, up_at]
  rfl

/-- One shard's part of the network's output. -/
def part (s : Fin 2048) (d : Fin 1024) (p : Fin 4) : EReal :=
  ∑ f : Fin 704, refAct m c s (unit p f) * arg4 m c (ix2 (unit p f) d)

theorem acc_at (f : Vec Ideal S1024x1024 .f32) (s d : Fin 1024) :
    (inputs m c t).acc (hiddenAt m c t) f (ix2 s d) = f (ix2 s d) + part m c (token t s) d (shard t) := by
  refine (down_apply _ f (iblk m c 4 t) s d).trans ?_
  refine congrArg (fun a : EReal => f (ix2 s d) + a) ?_
  exact Finset.sum_congr rfl fun j _ => congrArg₂ (fun a b : EReal => a * b) (act_at m c t s j) (blk_4 m c t j d)

/-- The point before. -/
def prev : Fin cfg0.N := ⟨t.val - 1, Nat.lt_of_le_of_lt (Nat.sub_le _ _) t.isLt⟩

theorem sum_next (h : ¬t.val % 4 = 0) (s d : Fin 1024) : sumAt m c t.val t.isLt (ix2 s d)
    = sumAt m c (prev t).val (prev t).isLt (ix2 s d) + part m c (token t s) d (shard t) :=
  (congrFun (sumAt_next m c t h) _).trans (acc_at m c t _ s d)

theorem sum_first (h : t.val % 4 = 0) (s d : Fin 1024) : sumAt m c t.val t.isLt (ix2 s d) = part m c (token t s) d (shard t) :=
  (congrFun (sumAt_first m c t h) _).trans ((acc_at m c t _ s d).trans (by rw [zero_apply, zero_add]))

theorem token_prev (h : ¬t.val % 4 = 0) (s : Fin 1024) : token (prev t) s = token t s :=
  Fin.ext (by show (t.val - 1) / 4 * 1024 + s.val = t.val / 4 * 1024 + s.val; omega)

/-- The four shards' parts are the network's output. -/
theorem parts (s : Fin 2048) (d : Fin 1024) :
    part m c s d 0 + part m c s d 1 + part m c s d 2 + part m c s d 3 = refFfn m c s d := by
  have e : ∀ F : Fin 2816 → EReal, ∑ f, F f
      = ∑ f : Fin 704, F (unit 0 f) + ∑ f : Fin 704, F (unit 1 f) + ∑ f : Fin 704, F (unit 2 f) + ∑ f : Fin 704, F (unit 3 f) := fun F =>
    (Fin.sum_univ_add (a := 704 + 704 + 704) (b := 704) F).trans (congrArg₂ (· + ·)
      ((Fin.sum_univ_add (a := 704 + 704) (b := 704) _).trans (congrArg₂ (· + ·)
        ((Fin.sum_univ_add (a := 704) (b := 704) _).trans (congrArg₂ (· + ·)
          (Finset.sum_congr rfl fun f _ => congrArg F (Fin.ext (by simp [unit])))
          (Finset.sum_congr rfl fun f _ => congrArg F (Fin.ext (by simp [unit, Nat.add_comm])))))
        (Finset.sum_congr rfl fun f _ => congrArg F (Fin.ext (by simp [unit])))))
      (Finset.sum_congr rfl fun f _ => congrArg F (Fin.ext (by simp [unit]))))
  exact (e fun f => refAct m c s f * arg4 m c (ix2 f d)).symm

theorem sum_last (h : t.val % 4 = 3) (s d : Fin 1024) : sumAt m c t.val t.isLt (ix2 s d) = refFfn m c (token t s) d := by
  have h1 : (prev t).val % 4 = 2 := by show (t.val - 1) % 4 = 2; omega
  have h2 : (prev (prev t)).val % 4 = 1 := by show ((prev t).val - 1) % 4 = 1; omega
  have h3 : (prev (prev (prev t))).val % 4 = 0 := by show ((prev (prev t)).val - 1) % 4 = 0; omega
  have q : ∀ (u : Fin cfg0.N) (p : Fin 4), u.val % 4 = p.val → shard u = p := fun u p hu => Fin.ext hu
  rw [sum_next m c t (by omega), sum_next m c (prev t) (by omega), sum_next m c (prev (prev t)) (by omega),
    sum_first m c (prev (prev (prev t))) h3, token_prev (prev (prev t)) (by omega), token_prev (prev t) (by omega),
    token_prev t (by omega), q _ 3 h, q _ 2 h1, q _ 1 h2, q _ 0 h3]
  exact parts m c (token t s) d

theorem out_at (h : t.val % 4 = 3) (s d : Fin 1024) : (inputs m c t).out (sumAt m c t.val t.isLt) (ix2 s d)
    = Cert.Reference3Ideal.Own.out (arg0 m c) (arg1 m c) (arg2 m c) (arg3 m c) (arg4 m c) (arg5 m c) (arg6 m c) (token t s) d := by
  refine (out_apply (sumAt m c t.val t.isLt) (iblk m c 0 t) _ (iblk m c 5 t) (iblk m c 6 t) s d).trans ?_
  rw [blk_5, blk_6]
  simp only [blk_0, gateRow_apply, sum_last m c t h]
  have e : ∀ d, (inputs m c t).x1 (ix2 2 d) = arg1 m c (ix2 2 d) := fun d => blk_1 m c t 2 d
  simp only [e]
  rfl

end Points

theorem last_7 : ∀ t : Fin cfg0.N, (cfg0.win 7).flush t = true → t.val % 4 = 3 := by decide +kernel
theorem last_8 : ∀ t : Fin cfg0.N, (cfg0.win 8).flush t = true → t.val % 4 = 3 := by decide +kernel
theorem index_7 : ∀ t : Fin cfg0.N, win0_7.index t = ![t.val / 4, 0] := by decide +kernel
theorem index_8 : ∀ t : Fin cfg0.N, win0_8.index t = ![t.val / 4, 0] := by decide +kernel
theorem index_9 : ∀ t : Fin cfg0.N, win0_9.index t = ![t.val % 4, t.val / 4, 0] := by decide +kernel
theorem index_10 : ∀ t : Fin cfg0.N, win0_10.index t = ![t.val % 4, t.val / 4, 0] := by decide +kernel
theorem index_11 : ∀ t : Fin cfg0.N, win0_11.index t = ![t.val % 4, t.val / 4, 0] := by decide +kernel
theorem index_12 : ∀ t : Fin cfg0.N, win0_12.index t = ![t.val / 4, 0] := by decide +kernel

theorem tile_index (y : S1024x1024.Idx) : y = ix2 (y 0) (y 1) := by
  funext a
  fin_cases a <;> rfl

theorem shard_index (y : S1x1024x704.Idx) : y = ix3 0 (y 1) (y 2) := by
  funext a
  fin_cases a
  · exact Subsingleton.elim (α := Fin 1) _ _
  · rfl
  · rfl

theorem result_7 : (dats m 0 c).arrAt 7 cfg0.N
    = val_main_v68 (F := Ideal) (arg0 m c) (arg1 m c) (arg2 m c) (arg3 m c) (arg4 m c) (arg5 m c) (arg6 m c) := by
  refine (dats m 0 c).arrAt_eq_of_covers 7 _ (by decide +kernel) fun t hf y => ?_
  blk_simp
  rw [after_7]
  refine (congrArg _ (tile_index y)).trans ((out_at m c t (last_7 t hf) (y 0) (y 1)).trans
    ((Cert.Reference3Ideal.Own.out_apply _ _ _ _ _ _ _ _ _).symm.trans (congrArg _ ?_)))
  blk_ext [index_7 t, token]

theorem result_8 : (dats m 0 c).arrAt 8 cfg0.N
    = val_main_v34 (F := Ideal) (arg0 m c) (arg1 m c) (arg2 m c) (arg3 m c) (arg4 m c) := by
  refine (dats m 0 c).arrAt_eq_of_covers 8 _ (by decide +kernel) fun t hf y => ?_
  blk_simp
  rw [after_8]
  refine (congrArg _ (tile_index y)).trans ((sum_last m c t (last_8 t hf) (y 0) (y 1)).trans
    ((Cert.Reference3Ideal.Own.ffn_apply _ _ _ _ _ _ _).symm.trans (congrArg _ ?_)))
  blk_ext [index_8 t, token]

theorem result_9 : (dats m 0 c).arrAt 9 cfg0.N = val_main_v71 (F := Ideal) (arg0 m c) (arg1 m c) (arg2 m c) := by
  refine (dats m 0 c).arrAt_eq_of_covers 9 _ (by decide +kernel) fun t hf y => ?_
  blk_simp
  rw [after_9]
  refine (congrArg _ (shard_index y)).trans (((gate_store _ _ (y 1) (y 2)).trans (gate_at m c t (y 1) (y 2))).trans
    ((Cert.Reference3Ideal.Own.gate_shard _ _ _ _ _ _).symm.trans (congrArg _ ?_)))
  blk_ext [index_9 t, shard, token]

theorem result_10 : (dats m 0 c).arrAt 10 cfg0.N = val_main_v74 (F := Ideal) (arg0 m c) (arg1 m c) (arg3 m c) := by
  refine (dats m 0 c).arrAt_eq_of_covers 10 _ (by decide +kernel) fun t hf y => ?_
  blk_simp
  rw [after_10]
  refine (congrArg _ (shard_index y)).trans (((up_store _ _ (y 1) (y 2)).trans (up_at m c t (y 1) (y 2))).trans
    ((Cert.Reference3Ideal.Own.up_shard _ _ _ _ _ _).symm.trans (congrArg _ ?_)))
  blk_ext [index_10 t, shard, token]

theorem result_11 : (dats m 0 c).arrAt 11 cfg0.N
    = val_main_v77 (F := Ideal) (arg0 m c) (arg1 m c) (arg2 m c) (arg3 m c) := by
  refine (dats m 0 c).arrAt_eq_of_covers 11 _ (by decide +kernel) fun t hf y => ?_
  blk_simp
  rw [after_11]
  refine (congrArg _ (shard_index y)).trans (((act_store _ _ _ (y 1) (y 2)).trans (act_at m c t (y 1) (y 2))).trans
    ((Cert.Reference3Ideal.Own.act_shard _ _ _ _ _ _ _).symm.trans (congrArg _ ?_)))
  blk_ext [index_11 t, shard, token]

theorem result_12 : (dats m 0 c).arrAt 12 cfg0.N = val_main_v78 (F := Ideal) (arg0 m c) (arg1 m c) := by
  refine (dats m 0 c).arrAt_eq_of_covers 12 _ (by decide +kernel) fun t hf y => ?_
  blk_simp
  rw [after_12]
  refine (congrArg _ (tile_index y)).trans ((hidden_at m c t (y 0) (y 1)).trans
    ((Cert.Reference3Ideal.Own.hidden_shard _ _ _ _).symm.trans (congrArg _ ?_)))
  blk_ext [index_12 t, token]

/-- Every run ends with the reference's values in the results and the arguments unchanged. -/
theorem run_results (ρ : Dev nD → PrngReg) : θ_run defs (onTc (τ := τ) (main (F := Ideal))) ⟨m, fun _ => 0, ρ⟩ (fun r => ∀ c : Dev nD,
      r.2.mem ((c.tc : Thread nD τ).loc main_v10_0) = val_main_v68 (F := Ideal) (arg0 m c) (arg1 m c) (arg2 m c) (arg3 m c) (arg4 m c) (arg5 m c) (arg6 m c)
      ∧ r.2.mem ((c.tc : Thread nD τ).loc main_v10_1) = val_main_v34 (F := Ideal) (arg0 m c) (arg1 m c) (arg2 m c) (arg3 m c) (arg4 m c)
      ∧ r.2.mem ((c.tc : Thread nD τ).loc main_v10_2) = val_main_v71 (F := Ideal) (arg0 m c) (arg1 m c) (arg2 m c)
      ∧ r.2.mem ((c.tc : Thread nD τ).loc main_v10_3) = val_main_v74 (F := Ideal) (arg0 m c) (arg1 m c) (arg3 m c)
      ∧ r.2.mem ((c.tc : Thread nD τ).loc main_v10_4) = val_main_v77 (F := Ideal) (arg0 m c) (arg1 m c) (arg2 m c) (arg3 m c)
      ∧ r.2.mem ((c.tc : Thread nD τ).loc main_v10_5) = val_main_v78 (F := Ideal) (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (result_7 m c),
    ((h c).1 8).trans (result_8 m c),
    ((h c).1 9).trans (result_9 m c),
    ((h c).1 10).trans (result_10 m c),
    ((h c).1 11).trans (result_11 m c),
    ((h c).1 12).trans (result_12 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (run_main m ρ)

end Cert.Kernel3Ideal.Own

end
-- ==== Proof.FwdClaims.lean ====
module

public import proofs.«01_k».proof.Proof.Claims
public import proofs.«01_k».proof.Proof.FwdResult
public import proofs.«01_k».proof.Proof.Gen.Reference3Ideal.Run

@[expose] public section

/-
  The claims about the idealized programs of the feed-forward sub-layer.
-/

set_option maxRecDepth 16384

noncomputable section

namespace Cert.Proof

open Idealize.ShloMosaic Idealize.SL.Sem

theorem fwd_frame_ri : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

theorem fwd_algebraic : Cert.algebraic_Kernel3Ideal_Reference3Ideal := by
  intro m g m' g' _ hargs
  refine ⟨fun c => Cert.Reference3Ideal.Read.val_main_v68 (F := Ideal) (Cert.Kernel3Ideal.Own.arg0 m c) (Cert.Kernel3Ideal.Own.arg1 m c) (Cert.Kernel3Ideal.Own.arg2 m c) (Cert.Kernel3Ideal.Own.arg3 m c) (Cert.Kernel3Ideal.Own.arg4 m c) (Cert.Kernel3Ideal.Own.arg5 m c) (Cert.Kernel3Ideal.Own.arg6 m c),
    fun c => Cert.Reference3Ideal.Read.val_main_v34 (F := Ideal) (Cert.Kernel3Ideal.Own.arg0 m c) (Cert.Kernel3Ideal.Own.arg1 m c) (Cert.Kernel3Ideal.Own.arg2 m c) (Cert.Kernel3Ideal.Own.arg3 m c) (Cert.Kernel3Ideal.Own.arg4 m c),
    fun c => Cert.Reference3Ideal.Read.val_main_v71 (F := Ideal) (Cert.Kernel3Ideal.Own.arg0 m c) (Cert.Kernel3Ideal.Own.arg1 m c) (Cert.Kernel3Ideal.Own.arg2 m c),
    fun c => Cert.Reference3Ideal.Read.val_main_v74 (F := Ideal) (Cert.Kernel3Ideal.Own.arg0 m c) (Cert.Kernel3Ideal.Own.arg1 m c) (Cert.Kernel3Ideal.Own.arg3 m c),
    fun c => Cert.Reference3Ideal.Read.val_main_v77 (F := Ideal) (Cert.Kernel3Ideal.Own.arg0 m c) (Cert.Kernel3Ideal.Own.arg1 m c) (Cert.Kernel3Ideal.Own.arg2 m c) (Cert.Kernel3Ideal.Own.arg3 m c),
    fun c => Cert.Reference3Ideal.Read.val_main_v78 (F := Ideal) (Cert.Kernel3Ideal.Own.arg0 m c) (Cert.Kernel3Ideal.Own.arg1 m c),
    Cert.Kernel3Ideal.Own.run_results m g, ?_⟩
  refine (θ_run Cert.Reference3Ideal.defs _ _).mono (fun r h c => ?_) (Cert.Reference3Ideal.Value.run (F := Ideal) m' g')
  obtain ⟨a0, a1, a2, a3, a4, a5, a6⟩ := hargs c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · refine (Cert.Reference3Ideal.Read.val_main_v68_eq m' c).trans ?_
    rw [a0, a1, a2, a3, a4, a5, a6]
  · refine (Cert.Reference3Ideal.Read.val_main_v34_eq m' c).trans ?_
    rw [a0, a1, a2, a3, a4]
  · refine (Cert.Reference3Ideal.Read.val_main_v71_eq _ _ _).trans ?_
    rw [a0, a1, a2]
  · refine (Cert.Reference3Ideal.Read.val_main_v74_eq _ _ _).trans ?_
    rw [a0, a1, a3]
  · refine (Cert.Reference3Ideal.Read.val_main_v77_eq m' c).trans ?_
    rw [a0, a1, a2, a3]
  · refine (Cert.Reference3Ideal.Read.val_main_v78_eq _ _).trans ?_
    rw [a0, a1]

end Cert.Proof

end
-- ==== Proof.MixResult.lean ====
module

public import proofs.«01_k».proof.Proof.Gen.Reference4Ideal.Read
public import proofs.«01_k».proof.Proof.Gen.Kernel4Ideal.Frame
public import proofs.«01_k».proof.Proof.Gen.Kernel4Ideal.Value
public import Idealize.ShloMosaic.Lib.StableHlo.ReadAt
public import Idealize.ShloMosaic.Lib.Pipeline.ValueKit
public import Idealize.ShloMosaic.Lib.Pointwise
public import Idealize.ShloMosaic.Lib.Pipeline.ReadBack

@[expose] public section

/-
  The mixer's launch leaves the reference's gradient of the weight: the first half of the tokens starts a shard's sum from
  zero, the second half ends it and stores it.
-/

set_option maxRecDepth 16384

noncomputable section

namespace Cert.Reference4Ideal.Own

open Idealize.ShloMosaic Idealize.ShloMosaic.TcCoe Idealize.ShloMosaic.StableHlo Cert.Reference4Ideal Cert.Reference4Ideal.Gen Cert.Reference4Ideal.Read

/-- Column `n` of shard `p`. -/
def column (p : Fin 4) (n : Fin 512) : Fin 2048 := ⟨p.val * 512 + n.val, by omega⟩

theorem weight_apply (h : Vec Ideal S2048x1024 .f32) (dz : Vec Ideal S2048x2048 .f32) (p : Fin 4) (d : Fin 1024) (n : Fin 512) :
    val_main_v5 (F := Ideal) h dz (ix4 p 0 d n) = ∑ s : Fin 2048, dz (ix2 s (column p n)) * h (ix2 s d) := by
  pointwise [val_main_v5, val_main_v4, val_main_v3, val_main_v2, val_main_v1, val_main_v0]
  rfl

end Cert.Reference4Ideal.Own

namespace Cert.Kernel4Ideal.Own

open Idealize.ShloMosaic Idealize.ShloMosaic.TcCoe Idealize.ShloMosaic.StableHlo Cert.Kernel4Ideal Cert.Kernel4Ideal.Gen
open Cert.Reference4Ideal.Own (column)
open Cert.Reference4Ideal.Read (val_main_v5)

variable (m : (ℓ : Loc nD τ sig) → Buf (Elt Ideal) ℓ) (c : Dev nD) (t : Fin cfg0.N)

abbrev arg0 : Vec Ideal S2048x1024 .f32 := m ((c.tc : Thread nD τ).loc main_arg0)
abbrev arg1 : Vec Ideal S2048x2048 .f32 := m ((c.tc : Thread nD τ).loc main_arg1)

theorem V_tokens (s : Fin 2048) (d : Fin 1024) : V m c main_v4 (ix2 s d) = arg0 m c (ix2 s d) := by
  after_reads_at

theorem V_grad (p : Fin 4) (s : Fin 2048) (n : Fin 512) : V m c main_v2 (ix3 p s n) = arg1 m c (ix2 s (column p n)) := by
  after_reads_at
  rfl

theorem index_0 : ∀ t : Fin cfg0.N, win0_0.index t = ![t.val % 2, 0] := by decide +kernel
theorem index_1 : ∀ t : Fin cfg0.N, win0_1.index t = ![t.val / 2, t.val % 2, 0] := by decide +kernel
theorem index_2 : ∀ t : Fin cfg0.N, win0_2.index t = ![t.val / 2, 0, 0, 0] := by decide +kernel
theorem odd_2 : ∀ t : Fin cfg0.N, (cfg0.win 2).flush t = true → t.val % 2 = 1 := by decide +kernel

/-- The shard a point of the grid works on. -/
def shard : Fin 4 := ⟨t.val / 2, by have := t.isLt; have : cfg0.N = 8 := N_0; omega⟩

/-- The token of row `s` of a point's half of the tokens. -/
def token (s : Fin 1024) : Fin 2048 := ⟨t.val % 2 * 1024 + s.val, by omega⟩

theorem blk_0 (s d : Fin 1024) : iblk m c 0 t (ix2 s d) = arg0 m c (ix2 (token t s) d) := by
  rw [← V_tokens]
  unfold iblk
  blk_ext [index_0 t, shard, token]

theorem blk_1 (s : Fin 1024) (n : Fin 512) : iblk m c 1 t (ix3 0 s n) = arg1 m c (ix2 (token t s) (column (shard t) n)) := by
  rw [← V_grad]
  unfold iblk
  blk_ext [index_1 t, shard, token]

theorem zero_apply (d : Fin 1024) (n : Fin 512) : k0_pay1 (F := Ideal) (ix2 d n) = 0 := by
  pointwise [k0_pay1]

theorem step_apply (a : Vec Ideal S1024x512 .f32) (h : Vec Ideal S1024x1024 .bf16) (g : Vec Ideal S1x1024x512 .bf16) (d : Fin 1024)
    (n : Fin 512) : k0_pay2 a h g (ix2 d n) = a (ix2 d n) + ∑ s : Fin 1024, h (ix2 s d) * g (ix3 0 s n) := by
  pointwise [k0_pay2]

theorem store_apply (a : Vec Ideal S1024x512 .f32) (d : Fin 1024) (n : Fin 512) : k0_pay3 a (ix4 0 0 d n) = a (ix2 d n) := by
  pointwise [k0_pay3]

/-- The point before. -/
def prev : Fin cfg0.N := ⟨t.val - 1, by have := t.isLt; omega⟩

theorem start (h0 : t.val % 2 = 0) :
    (outsAt0 m c t.val t.isLt).2 = k0_pay2 (k0_pay1 (F := Ideal)) (iblk m c 0 t) (iblk m c 1 t) := by
  rw [outsAt0_A m c t h0 (by omega)]
  frame_out

theorem finish (h1 : t.val % 2 = 1) : (outsAt0 m c t.val t.isLt).1
    = k0_pay3 (k0_pay2 (outsAt0 m c (prev t).val (prev t).isLt).2 (iblk m c 0 t) (iblk m c 1 t)) := by
  rw [outsAt0_B m c t (by omega) h1]
  frame_out
  simp only [read_unread_whole]
  rfl

/-- The two halves of the tokens are the tokens. -/
theorem halves (h1 : t.val % 2 = 1) (F : Fin 2048 → EReal) :
    ∑ s : Fin 1024, F (token (prev t) s) + ∑ s : Fin 1024, F (token t s) = ∑ s, F s := by
  refine Eq.symm ((Fin.sum_univ_add (a := 1024) (b := 1024) F).trans ?_)
  refine congrArg₂ (· + ·) (Finset.sum_congr rfl fun s _ => congrArg F (Fin.ext ?_)) (Finset.sum_congr rfl fun s _ => congrArg F (Fin.ext ?_))
  · show s.val = (t.val - 1) % 2 * 1024 + s.val
    omega
  · show 1024 + s.val = t.val % 2 * 1024 + s.val
    omega

theorem weight_at (h1 : t.val % 2 = 1) (d : Fin 1024) (n : Fin 512) : (outsAt0 m c t.val t.isLt).1 (ix4 0 0 d n)
    = val_main_v5 (F := Ideal) (arg0 m c) (arg1 m c) (ix4 (shard t) 0 d n) := by
  have h0 : (prev t).val % 2 = 0 := by show (t.val - 1) % 2 = 0; omega
  have hs : shard (prev t) = shard t := Fin.ext (by show (t.val - 1) / 2 = t.val / 2; omega)
  rw [finish m c t h1, start m c (prev t) h0, Cert.Reference4Ideal.Own.weight_apply]
  refine (store_apply _ d n).trans ?_
  rw [step_apply, step_apply, zero_apply, zero_add]
  simp only [blk_0, blk_1, hs]
  refine (halves t h1 fun s => arg0 m c (ix2 s d) * arg1 m c (ix2 s (column (shard t) n))).trans ?_
  exact Finset.sum_congr rfl fun s _ => mul_comm _ _

theorem block_index (y : S1x1x1024x512.Idx) : y = ix4 0 0 (y 2) (y 3) := by
  funext a
  fin_cases a
  · exact Subsingleton.elim (α := Fin 1) _ _
  · exact Subsingleton.elim (α := Fin 1) _ _
  · rfl
  · rfl

theorem result_2 : (dats m 0 c).arrAt 2 cfg0.N = val_main_v5 (F := Ideal) (arg0 m c) (arg1 m c) := by
  refine (dats m 0 c).arrAt_eq_of_covers 2 _ (by decide +kernel) fun t hf y => ?_
  blk_simp
  rw [after0_2]
  refine (congrArg _ (block_index y)).trans ((weight_at m c t (odd_2 t hf) (y 2) (y 3)).trans (congrArg _ ?_))
  blk_ext [index_2 t, shard]

end Cert.Kernel4Ideal.Own

end
-- ==== Proof.MixClaims.lean ====
module

public import proofs.«01_k».proof.Proof.Claims
public import proofs.«01_k».proof.Proof.MixResult
public import proofs.«01_k».proof.Proof.Gen.Reference4Ideal.Run

@[expose] public section

/-
  The claims about the idealized programs of the gradient of the mixer's first weight.
-/

set_option maxRecDepth 16384

noncomputable section

namespace Cert.Proof

open Idealize.ShloMosaic Idealize.SL.Sem

theorem mix_frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem mix_algebraic : Cert.algebraic_Kernel4Ideal_Reference4Ideal := by
  intro m g m' g' _ hargs
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  obtain ⟨a0, a1⟩ := hargs c
  refine ⟨(h c).1.trans ((Cert.Reference4Ideal.Read.val_main_v5_eq _ _).trans ?_), (h c).2⟩
  rw [a0, a1]
  exact (Cert.Kernel4Ideal.Own.result_2 m c).symm

end Cert.Proof

end
-- ==== Proof.lean ====
/- The gradient of the dilated attention, the feed-forward network's weight gradients, the feed-forward sub-layer itself and the
   gradient of the mixer's first weight: the frames of each kernel, of its idealization and of its reference, and the kernels'
   results equal to the references', of the first two over finite arguments. Proof/KernelFrame.lean and Proof/FwdFrame.lean
   have the frames of the attention's and the sub-layer's kernel as printed; Proof/Claims.lean, Proof/FfnClaims.lean,
   Proof/FwdClaims.lean and Proof/MixClaims.lean the claims about the idealized programs. -/
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.Claims
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.FfnClaims
public import proofs.«01_k».proof.Proof.Gen.Kernel3
public import proofs.«01_k».proof.Proof.FwdFrame
public import proofs.«01_k».proof.Proof.Gen.Kernel3Ideal
public import proofs.«01_k».proof.Proof.Gen.Reference3Ideal
public import proofs.«01_k».proof.Proof.FwdClaims
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.MixClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, pre_facts, ffn_pre_facts,
    fun m ρ _ => Cert.Kernel.Own.frame m ρ, fun m ρ _ => Cert.KernelIdeal.Own.frame m ρ,
    fun m ρ _ => Cert.KernelIdeal.Own.frame m ρ, frame_ri, fun m ρ _ => frame_ri m ρ trivial,
    fun m ρ _ => Cert.Kernel2.Gen.frame m ρ, fun m ρ _ => Cert.Kernel2Ideal.Gen.frame m ρ,
    fun m ρ _ => Cert.Kernel2Ideal.Gen.frame m ρ, ffn_frame_ri, fun m ρ _ => ffn_frame_ri m ρ trivial,
    fun m ρ _ => Cert.Kernel3.Own.frame m ρ, fun m ρ _ => Cert.Kernel3Ideal.Own.frame m ρ, fwd_frame_ri,
    fun m ρ _ => Cert.Kernel4.Gen.frame m ρ, fun m ρ _ => Cert.Kernel4Ideal.Gen.frame m ρ, mix_frame_ri,
    trivial, algebraic, trivial, ffn_algebraic, trivial, fwd_algebraic, trivial, mix_algebraic⟩

end Cert.Proof

end
